-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_apart [hPre_finite_and_apart : Cert.Pre_finite_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_apart [hPre_finite_and_apart : Cert.Pre_finite_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_apart [hKernelIdeal : Cert.KernelIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_apart [hReferenceIdeal : Cert.ReferenceIdeal.Facts] [hPre_finite_and_apart : Cert.Pre_finite_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "far" .f32 0x7149F2CA#32 ⊤

def algebraic_KernelIdeal_ReferenceIdeal_pre_finite_and_apart [hKernelIdeal : Cert.KernelIdeal.Facts] [hReferenceIdeal : Cert.ReferenceIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_apart : Cert.Pre_finite_and_apart.Facts),
    quiescent_Kernel (hKernel := hKernel)
    ∧ quiescent_KernelIdeal (hKernelIdeal := hKernelIdeal)
    ∧ quiescent_KernelIdeal_pre_finite_and_apart (hKernelIdeal := hKernelIdeal) (hPre_finite_and_apart := hPre_finite_and_apart)
    ∧ quiescent_ReferenceIdeal (hReferenceIdeal := hReferenceIdeal)
    ∧ quiescent_ReferenceIdeal_pre_finite_and_apart (hReferenceIdeal := hReferenceIdeal) (hPre_finite_and_apart := hPre_finite_and_apart)
    ∧ preserves_Kernel_KernelIdeal
    ∧ algebraic_KernelIdeal_ReferenceIdeal_pre_finite_and_apart (hKernelIdeal := hKernelIdeal) (hReferenceIdeal := hReferenceIdeal) (hPre_finite_and_apart := hPre_finite_and_apart)
-- ==== Pre_finite_and_apart.lean ====
abbrev S4x3x8192 : Shape := ⟨3, ![4, 3, 8192]⟩
abbrev S4x3x1024 : Shape := ⟨3, ![4, 3, 1024]⟩
abbrev S4x64x8192 : Shape := ⟨3, ![4, 64, 8192]⟩
abbrev S4x64x1024 : Shape := ⟨3, ![4, 64, 1024]⟩
abbrev S64x128 : Shape := ⟨2, ![64, 128]⟩
abbrev S64 : Shape := ⟨1, ![64]⟩
abbrev S64x64 : Shape := ⟨2, ![64, 64]⟩
abbrev S_ : Shape := ⟨0, ![]⟩
abbrev S4x8192x3 : Shape := ⟨3, ![4, 8192, 3]⟩
abbrev S4x1024x3 : Shape := ⟨3, ![4, 1024, 3]⟩
abbrev S4x8192 : Shape := ⟨2, ![4, 8192]⟩
abbrev S4x8192x1 : Shape := ⟨3, ![4, 8192, 1]⟩
abbrev S4x1024 : Shape := ⟨2, ![4, 1024]⟩
abbrev S4x1x1024 : Shape := ⟨3, ![4, 1, 1024]⟩
abbrev S4x8192x1024 : Shape := ⟨3, ![4, 8192, 1024]⟩
abbrev S4x8192x4 : Shape := ⟨3, ![4, 8192, 4]⟩

class Facts : Prop where
  reducesTo_S4x3x8192_S_d0_1_2 : S4x3x8192.ReducesTo [0, 1, 2] S_
  h_S_ : 0 < S_.numel
  reducesTo_S4x3x1024_S_d0_1_2 : S4x3x1024.ReducesTo [0, 1, 2] S_
  reducesTo_S4x64x8192_S_d0_1_2 : S4x64x8192.ReducesTo [0, 1, 2] S_
  reducesTo_S4x64x1024_S_d0_1_2 : S4x64x1024.ReducesTo [0, 1, 2] S_
  reducesTo_S64x128_S_d0_1 : S64x128.ReducesTo [0, 1] S_
  reducesTo_S64_S_d0 : S64.ReducesTo [0] S_
  reducesTo_S64x64_S_d0_1 : S64x64.ReducesTo [0, 1] S_
  transposes_S4x3x8192_S4x8192x3_0_2_1 : S4x3x8192.Transposes [0, 2, 1] S4x8192x3
  transposes_S4x3x1024_S4x1024x3_0_2_1 : S4x3x1024.Transposes [0, 2, 1] S4x1024x3
  reducesTo_S4x8192x3_S4x8192_d2 : S4x8192x3.ReducesTo [2] S4x8192
  bcast_S4x8192_S4x8192x1_0_1 : S4x8192.BroadcastsInDim S4x8192x1 (![0, 1] : Fin 2 → Fin S4x8192x1.rank)
  reducesTo_S4x1024x3_S4x1024_d2 : S4x1024x3.ReducesTo [2] S4x1024
  bcast_S4x1024_S4x1x1024_0_2 : S4x1024.BroadcastsInDim S4x1x1024 (![0, 2] : Fin 2 → Fin S4x1x1024.rank)
  bcast_S4x8192x1_S4x8192x1024_0_1_2 : S4x8192x1.BroadcastsInDim S4x8192x1024 (![0, 1, 2] : Fin 3 → Fin S4x8192x1024.rank)
  bcast_S4x1x1024_S4x8192x1024_0_1_2 : S4x1x1024.BroadcastsInDim S4x8192x1024 (![0, 1, 2] : Fin 3 → Fin S4x8192x1024.rank)
  bcast_S_S4x8192x1024 : S_.BroadcastsInDim S4x8192x1024 (![] : Fin 0 → Fin S4x8192x1024.rank)
  sliceFits_S4x8192x1024_S4x8192x4 : S4x8192x1024.Slices (fun _ => 0) S4x8192x4
  slices_S4x8192x4_S4x8192x3_0_0_0 : S4x8192x4.Slices ![0, 0, 0] S4x8192x3
  slices_S4x8192x4_S4x8192x3_0_0_1 : S4x8192x4.Slices ![0, 0, 1] S4x8192x3
  bcast_S_S4x8192 : S_.BroadcastsInDim S4x8192 (![] : Fin 0 → Fin S4x8192.rank)
  dot_S4x8192x3_S4x1024x3_S4x8192x1024_2_2_1_1_0_0_wf : DotDims.WF S4x8192x3 S4x1024x3 S4x8192x1024 [2] [2] [1] [1] [0] [0]

variable [Facts]

def dot_S4x8192x3_S4x1024x3_S4x8192x1024_2_2_1_1_0_0 : DotDims S4x8192x3 S4x1024x3 S4x8192x1024 where
  lhsContracting := [2]
  rhsContracting := [2]
  lhsNonContracting := [1]
  rhsNonContracting := [1]
  lhsBatch := [0]
  rhsBatch := [0]
  wf := dot_S4x8192x3_S4x1024x3_S4x8192x1024_2_2_1_1_0_0_wf
def fn_part4 {F : FTy → Type} [FloatOps F] (main_v65 : IVec S4x8192 1) (main_v66 : IVec S4x8192 1) : IVec S4x8192 1 :=
  let main_v67 : IVec S4x8192 1 := andi main_v66 main_v65
  main_v67

def fn_part3 {F : FTy → Type} [FloatOps F] (main_v42 : IVec S_ 1) (main_v43 : FVec F S4x8192x3 .f32) (main_v44 : FVec F S4x1024x3 .f32) (main_v47 : FVec F S4x8192x1 .f32) (main_v48 : FVec F S4x1024x3 .f32) : IVec S4x8192 1 :=
  let main_cst_22 : FVec F S_ .f32 := constant S_ .f32 0x00000000#32
  let main_v49 : FVec F S4x1024 .f32 := (fun x v => Host.reduceAdd x v reducesTo_S4x1024x3_S4x1024_d2 h_S_) main_v48 main_cst_22
  let main_v50 : FVec F S4x1x1024 .f32 := broadcastInDim S4x1x1024 ![0, 2] bcast_S4x1024_S4x1x1024_0_2 main_v49
  let main_v51 : FVec F S4x8192x1024 .f32 := broadcastInDim S4x8192x1024 ![0, 1, 2] bcast_S4x8192x1_S4x8192x1024_0_1_2 main_v47
  let main_v52 : FVec F S4x8192x1024 .f32 := broadcastInDim S4x8192x1024 ![0, 1, 2] bcast_S4x1x1024_S4x8192x1024_0_1_2 main_v50
  let main_v53 : FVec F S4x8192x1024 .f32 := addf main_v51 main_v52
  let main_v54 : FVec F S4x8192x1024 .f32 := (fun l r => Host.dotGeneral dot_S4x8192x3_S4x1024x3_S4x8192x1024_2_2_1_1_0_0 none l r) main_v43 main_v44
  let main_cst_23 : FVec F S_ .f32 := constant S_ .f32 0x40000000#32
  let main_v55 : FVec F S4x8192x1024 .f32 := broadcastInDim S4x8192x1024 ![] bcast_S_S4x8192x1024 main_cst_23
  let main_v56 : FVec F S4x8192x1024 .f32 := mulf main_v55 main_v54
  let main_v57 : FVec F S4x8192x1024 .f32 := subf main_v53 main_v56
  let main_cst_24 : FVec F S_ .f32 := constant S_ .f32 0x00000000#32
  let main_v58 : FVec F S4x8192x1024 .f32 := broadcastInDim S4x8192x1024 ![] bcast_S_S4x8192x1024 main_cst_24
  let main_v59 : FVec F S4x8192x1024 .f32 := maximumf main_v57 main_v58
  let main_v60 : FVec F S4x8192x1024 .f32 := Host.negf main_v59
  let main_values : FVec F S4x8192x4 .f32 := (fun x => (Host.topK S4x8192x4 2 (FloatOps.cmpfTotal .gt) x sliceFits_S4x8192x1024_S4x8192x4).1) main_v60
  let main_indices : IVec S4x8192x4 32 := (fun x => (Host.topK S4x8192x4 2 (FloatOps.cmpfTotal .gt) x sliceFits_S4x8192x1024_S4x8192x4).2) main_v60
  let main_v61 : FVec F S4x8192x4 .f32 := Host.negf main_values
  let main_v62 : FVec F S4x8192x3 .f32 := (extractStridedSlice S4x8192x3 ![0, 0, 0] · slices_S4x8192x4_S4x8192x3_0_0_0) main_v61
  let main_v63 : FVec F S4x8192x3 .f32 := (extractStridedSlice S4x8192x3 ![0, 0, 1] · slices_S4x8192x4_S4x8192x3_0_0_1) main_v61
  let main_v64 : IVec S4x8192x3 1 := cmpf .olt main_v62 main_v63
  let main_c : IVec S_ 1 := constantI S_ 1 1#1
  let main_v65 : IVec S4x8192 1 := (fun x v => Host.reduce IntOp.andi x v reducesTo_S4x8192x3_S4x8192_d2 h_S_) main_v64 main_c
  let main_v66 : IVec S4x8192 1 := broadcastInDim S4x8192 ![] bcast_S_S4x8192 main_v42
  fn_part4 (F := F) main_v65 main_v66

def fn_part2 {F : FTy → Type} [FloatOps F] (main_arg0 : FVec F S4x3x8192 .f32) (main_arg1 : FVec F S4x3x1024 .f32) (main_arg10 : FVec F S64 .f32) (main_v2 : IVec S_ 1) (main_v5 : IVec S_ 1) (main_v8 : IVec S_ 1) (main_v11 : IVec S_ 1) (main_v14 : IVec S_ 1) (main_v17 : IVec S_ 1) (main_v20 : IVec S_ 1) (main_v23 : IVec S_ 1) (main_v26 : IVec S_ 1) (main_v28 : FVec F S_ .f32) : IVec S4x8192 1 :=
  let main_cst_18 : FVec F S_ .f32 := constant S_ .f32 0x7F800000#32
  let main_v29 : IVec S_ 1 := cmpf .olt main_v28 main_cst_18
  let main_v30 : FVec F S64 .f32 := Host.absf main_arg10
  let main_cst_19 : FVec F S_ .f32 := constant S_ .f32 0xFF800000#32
  let main_v31 : FVec F S_ .f32 := (fun x v => Host.reduce FloatOps.maximumf x v reducesTo_S64_S_d0 h_S_) main_v30 main_cst_19
  let main_cst_20 : FVec F S_ .f32 := constant S_ .f32 0x7F800000#32
  let main_v32 : IVec S_ 1 := cmpf .olt main_v31 main_cst_20
  let main_v33 : IVec S_ 1 := andi main_v2 main_v5
  let main_v34 : IVec S_ 1 := andi main_v33 main_v8
  let main_v35 : IVec S_ 1 := andi main_v34 main_v11
  let main_v36 : IVec S_ 1 := andi main_v35 main_v14
  let main_v37 : IVec S_ 1 := andi main_v36 main_v17
  let main_v38 : IVec S_ 1 := andi main_v37 main_v20
  let main_v39 : IVec S_ 1 := andi main_v38 main_v23
  let main_v40 : IVec S_ 1 := andi main_v39 main_v26
  let main_v41 : IVec S_ 1 := andi main_v40 main_v29
  let main_v42 : IVec S_ 1 := andi main_v41 main_v32
  let main_v43 : FVec F S4x8192x3 .f32 := (transpose S4x8192x3 [0, 2, 1] · transposes_S4x3x8192_S4x8192x3_0_2_1) main_arg0
  let main_v44 : FVec F S4x1024x3 .f32 := (transpose S4x1024x3 [0, 2, 1] · transposes_S4x3x1024_S4x1024x3_0_2_1) main_arg1
  let main_v45 : FVec F S4x8192x3 .f32 := mulf main_v43 main_v43
  let main_cst_21 : FVec F S_ .f32 := constant S_ .f32 0x00000000#32
  let main_v46 : FVec F S4x8192 .f32 := (fun x v => Host.reduceAdd x v reducesTo_S4x8192x3_S4x8192_d2 h_S_) main_v45 main_cst_21
  let main_v47 : FVec F S4x8192x1 .f32 := broadcastInDim S4x8192x1 ![0, 1] bcast_S4x8192_S4x8192x1_0_1 main_v46
  let main_v48 : FVec F S4x1024x3 .f32 := mulf main_v44 main_v44
  fn_part3 (F := F) main_v42 main_v43 main_v44 main_v47 main_v48

def fn_part1 {F : FTy → Type} [FloatOps F] (main_arg0 : FVec F S4x3x8192 .f32) (main_arg1 : FVec F S4x3x1024 .f32) (main_arg5 : FVec F S64 .f32) (main_arg6 : FVec F S64 .f32) (main_arg7 : FVec F S64 .f32) (main_arg8 : FVec F S64x64 .f32) (main_arg9 : FVec F S64 .f32) (main_arg10 : FVec F S64 .f32) (main_v2 : IVec S_ 1) (main_v5 : IVec S_ 1) (main_v8 : IVec S_ 1) (main_v11 : IVec S_ 1) (main_v13 : FVec F S_ .f32) (main_cst_8 : FVec F S_ .f32) : IVec S4x8192 1 :=
  let main_v14 : IVec S_ 1 := cmpf .olt main_v13 main_cst_8
  let main_v15 : FVec F S64 .f32 := Host.absf main_arg5
  let main_cst_9 : FVec F S_ .f32 := constant S_ .f32 0xFF800000#32
  let main_v16 : FVec F S_ .f32 := (fun x v => Host.reduce FloatOps.maximumf x v reducesTo_S64_S_d0 h_S_) main_v15 main_cst_9
  let main_cst_10 : FVec F S_ .f32 := constant S_ .f32 0x7F800000#32
  let main_v17 : IVec S_ 1 := cmpf .olt main_v16 main_cst_10
  let main_v18 : FVec F S64 .f32 := Host.absf main_arg6
  let main_cst_11 : FVec F S_ .f32 := constant S_ .f32 0xFF800000#32
  let main_v19 : FVec F S_ .f32 := (fun x v => Host.reduce FloatOps.maximumf x v reducesTo_S64_S_d0 h_S_) main_v18 main_cst_11
  let main_cst_12 : FVec F S_ .f32 := constant S_ .f32 0x7F800000#32
  let main_v20 : IVec S_ 1 := cmpf .olt main_v19 main_cst_12
  let main_v21 : FVec F S64 .f32 := Host.absf main_arg7
  let main_cst_13 : FVec F S_ .f32 := constant S_ .f32 0xFF800000#32
  let main_v22 : FVec F S_ .f32 := (fun x v => Host.reduce FloatOps.maximumf x v reducesTo_S64_S_d0 h_S_) main_v21 main_cst_13
  let main_cst_14 : FVec F S_ .f32 := constant S_ .f32 0x7F800000#32
  let main_v23 : IVec S_ 1 := cmpf .olt main_v22 main_cst_14
  let main_v24 : FVec F S64x64 .f32 := Host.absf main_arg8
  let main_cst_15 : FVec F S_ .f32 := constant S_ .f32 0xFF800000#32
  let main_v25 : FVec F S_ .f32 := (fun x v => Host.reduce FloatOps.maximumf x v reducesTo_S64x64_S_d0_1 h_S_) main_v24 main_cst_15
  let main_cst_16 : FVec F S_ .f32 := constant S_ .f32 0x7F800000#32
  let main_v26 : IVec S_ 1 := cmpf .olt main_v25 main_cst_16
  let main_v27 : FVec F S64 .f32 := Host.absf main_arg9
  let main_cst_17 : FVec F S_ .f32 := constant S_ .f32 0xFF800000#32
  let main_v28 : FVec F S_ .f32 := (fun x v => Host.reduce FloatOps.maximumf x v reducesTo_S64_S_d0 h_S_) main_v27 main_cst_17
  fn_part2 (F := F) main_arg0 main_arg1 main_arg10 main_v2 main_v5 main_v8 main_v11 main_v14 main_v17 main_v20 main_v23 main_v26 main_v28

def fn {F : FTy → Type} [FloatOps F] (main_arg0 : FVec F S4x3x8192 .f32) (main_arg1 : FVec F S4x3x1024 .f32) (main_arg2 : FVec F S4x64x8192 .f32) (main_arg3 : FVec F S4x64x1024 .f32) (main_arg4 : FVec F S64x128 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) : IVec S4x8192 1 :=
  let main_v0 : FVec F S4x3x8192 .f32 := Host.absf main_arg0
  let main_cst : FVec F S_ .f32 := constant S_ .f32 0xFF800000#32
  let main_v1 : FVec F S_ .f32 := (fun x v => Host.reduce FloatOps.maximumf x v reducesTo_S4x3x8192_S_d0_1_2 h_S_) main_v0 main_cst
  let main_cst_0 : FVec F S_ .f32 := constant S_ .f32 0x7F800000#32
  let main_v2 : IVec S_ 1 := cmpf .olt main_v1 main_cst_0
  let main_v3 : FVec F S4x3x1024 .f32 := Host.absf main_arg1
  let main_cst_1 : FVec F S_ .f32 := constant S_ .f32 0xFF800000#32
  let main_v4 : FVec F S_ .f32 := (fun x v => Host.reduce FloatOps.maximumf x v reducesTo_S4x3x1024_S_d0_1_2 h_S_) main_v3 main_cst_1
  let main_cst_2 : FVec F S_ .f32 := constant S_ .f32 0x7F800000#32
  let main_v5 : IVec S_ 1 := cmpf .olt main_v4 main_cst_2
  let main_v6 : FVec F S4x64x8192 .f32 := Host.absf main_arg2
  let main_cst_3 : FVec F S_ .f32 := constant S_ .f32 0xFF800000#32
  let main_v7 : FVec F S_ .f32 := (fun x v => Host.reduce FloatOps.maximumf x v reducesTo_S4x64x8192_S_d0_1_2 h_S_) main_v6 main_cst_3
  let main_cst_4 : FVec F S_ .f32 := constant S_ .f32 0x7F800000#32
  let main_v8 : IVec S_ 1 := cmpf .olt main_v7 main_cst_4
  let main_v9 : FVec F S4x64x1024 .f32 := Host.absf main_arg3
  let main_cst_5 : FVec F S_ .f32 := constant S_ .f32 0xFF800000#32
  let main_v10 : FVec F S_ .f32 := (fun x v => Host.reduce FloatOps.maximumf x v reducesTo_S4x64x1024_S_d0_1_2 h_S_) main_v9 main_cst_5
  let main_cst_6 : FVec F S_ .f32 := constant S_ .f32 0x7F800000#32
  let main_v11 : IVec S_ 1 := cmpf .olt main_v10 main_cst_6
  let main_v12 : FVec F S64x128 .f32 := Host.absf main_arg4
  let main_cst_7 : FVec F S_ .f32 := constant S_ .f32 0xFF800000#32
  let main_v13 : FVec F S_ .f32 := (fun x v => Host.reduce FloatOps.maximumf x v reducesTo_S64x128_S_d0_1 h_S_) main_v12 main_cst_7
  let main_cst_8 : FVec F S_ .f32 := constant S_ .f32 0x7F800000#32
  fn_part1 (F := F) main_arg0 main_arg1 main_arg5 main_arg6 main_arg7 main_arg8 main_arg9 main_arg10 main_v2 main_v5 main_v8 main_v11 main_v13 main_cst_8
-- ==== Kernel.lean ====
abbrev S4x3x8192 : Shape := ⟨3, ![4, 3, 8192]⟩
abbrev S4x3x1024 : Shape := ⟨3, ![4, 3, 1024]⟩
abbrev S4x64x8192 : Shape := ⟨3, ![4, 64, 8192]⟩
abbrev S4x64x1024 : Shape := ⟨3, ![4, 64, 1024]⟩
abbrev S64x128 : Shape := ⟨2, ![64, 128]⟩
abbrev S64 : Shape := ⟨1, ![64]⟩
abbrev S64x64 : Shape := ⟨2, ![64, 64]⟩
abbrev S4x1024x3 : Shape := ⟨3, ![4, 1024, 3]⟩
abbrev S64x1 : Shape := ⟨2, ![64, 1]⟩
abbrev S64x2 : Shape := ⟨2, ![64, 2]⟩
abbrev S1x3x1024 : Shape := ⟨3, ![1, 3, 1024]⟩
abbrev S1x1024x3 : Shape := ⟨3, ![1, 1024, 3]⟩
abbrev S1x64x1024 : Shape := ⟨3, ![1, 64, 1024]⟩
abbrev S1024x1 : Shape := ⟨2, ![1024, 1]⟩
abbrev S3x1024 : Shape := ⟨2, ![3, 1024]⟩
abbrev S1024x3 : Shape := ⟨2, ![1024, 3]⟩
abbrev S1024 : Shape := ⟨1, ![1024]⟩
abbrev S1x1024 : Shape := ⟨2, ![1, 1024]⟩
abbrev S1024x1024 : Shape := ⟨2, ![1024, 1024]⟩
abbrev S64x1024 : Shape := ⟨2, ![64, 1024]⟩
abbrev S1x64x8192 : Shape := ⟨3, ![1, 64, 8192]⟩
abbrev S64x8192 : Shape := ⟨2, ![64, 8192]⟩

abbrev nBuf : Space → Nat
  | .hbm => 22
  | .vmem => 27
  | .smem => 0
  | _ => 0

abbrev bufTy : (tb : Table) → Fin (tcTables nBuf tb) → BufTy
  | .hbm, ⟨0, _⟩ => ⟨S4x3x8192, .f32⟩
  | .hbm, ⟨1, _⟩ => ⟨S4x3x1024, .f32⟩
  | .hbm, ⟨2, _⟩ => ⟨S4x64x8192, .f32⟩
  | .hbm, ⟨3, _⟩ => ⟨S4x64x1024, .f32⟩
  | .hbm, ⟨4, _⟩ => ⟨S64x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S4x1024x3, .f32⟩
  | .hbm, ⟨13, _⟩ => ⟨S64x1, .f32⟩
  | .hbm, ⟨14, _⟩ => ⟨S4x64x8192, .f32⟩
  | .hbm, ⟨15, _⟩ => ⟨S64x2, .f32⟩
  | .hbm, ⟨16, _⟩ => ⟨S64x1, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S4x64x8192, .f32⟩
  | .local _ .vmem, ⟨0, _⟩ => ⟨S1x3x1024, .f32⟩
  | .local _ .vmem, ⟨1, _⟩ => ⟨S1x3x1024, .f32⟩
  | .local _ .vmem, ⟨2, _⟩ => ⟨S1x1024x3, .f32⟩
  | .local _ .vmem, ⟨3, _⟩ => ⟨S1x1024x3, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S64x128, .f32⟩
  | .local _ .vmem, ⟨9, _⟩ => ⟨S64x1, .f32⟩
  | .local _ .vmem, ⟨10, _⟩ => ⟨S1x64x1024, .f32⟩
  | .local _ .vmem, ⟨11, _⟩ => ⟨S1x64x1024, .f32⟩
  | .local _ .vmem, ⟨12, _⟩ => ⟨S64x2, .f32⟩
  | .local _ .vmem, ⟨13, _⟩ => ⟨S1024x1, .f32⟩
  | .local _ .vmem, ⟨14, _⟩ => ⟨S1x64x8192, .f32⟩
  | .local _ .vmem, ⟨15, _⟩ => ⟨S1x64x8192, .f32⟩
  | .local _ .vmem, ⟨16, _⟩ => ⟨S64x2, .f32⟩
  | .local _ .vmem, ⟨17, _⟩ => ⟨S64x1, .f32⟩
  | .local _ .vmem, ⟨18, _⟩ => ⟨S64x1, .f32⟩
  | .local _ .vmem, ⟨19, _⟩ => ⟨S64x64, .f32⟩
  | .local _ .vmem, ⟨20, _⟩ => ⟨S64x1, .f32⟩
  | .local _ .vmem, ⟨21, _⟩ => ⟨S64x1, .f32⟩
  | .local _ .vmem, ⟨22, _⟩ => ⟨S64x1, .f32⟩
  | .local _ .vmem, ⟨23, _⟩ => ⟨S1x64x8192, .f32⟩
  | .local _ .vmem, ⟨24, _⟩ => ⟨S1x64x8192, .f32⟩
  | .local _ .vmem, ⟨25, _⟩ => ⟨S4x64x8192, .f32⟩
  | .local _ .vmem, ⟨26, _⟩ => ⟨S64x2, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S64x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![2, 4], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg1 : BitVec 32 := BitVec.ofNat 32 (i 1).val
  let v40 : Index := Scalar.indexCast arg1
  let c0_19 : Index := 0#32
  let c0_20 : Index := 0#32
  ![v40.toNat, 0, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k1_off2 (i : grid1.Coords) : Fin 3 → Nat :=
  let arg1 : BitVec 32 := BitVec.ofNat 32 (i 1).val
  let v24 : Index := Scalar.indexCast arg1
  let c0_10 : Index := 0#32
  let c0_11 : Index := 0#32
  ![v24.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![v1.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

abbrev stage1_0 : Fin 2 → Memref sig .tc .vmem S1x64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x64x8192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "far" => some ⊤
  | _ => none
-- ==== ReferenceIdeal.lean ====
abbrev S4x3x8192 : Shape := ⟨3, ![4, 3, 8192]⟩
abbrev S4x3x1024 : Shape := ⟨3, ![4, 3, 1024]⟩
abbrev S4x64x8192 : Shape := ⟨3, ![4, 64, 8192]⟩
abbrev S4x64x1024 : Shape := ⟨3, ![4, 64, 1024]⟩
abbrev S64x128 : Shape := ⟨2, ![64, 128]⟩
abbrev S64 : Shape := ⟨1, ![64]⟩
abbrev S64x64 : Shape := ⟨2, ![64, 64]⟩
abbrev S4x8192x3 : Shape := ⟨3, ![4, 8192, 3]⟩
abbrev S4x1024x3 : Shape := ⟨3, ![4, 1024, 3]⟩
abbrev S_ : Shape := ⟨0, ![]⟩
abbrev S4x8192 : Shape := ⟨2, ![4, 8192]⟩
abbrev S4x8192x1 : Shape := ⟨3, ![4, 8192, 1]⟩
abbrev S4x1024 : Shape := ⟨2, ![4, 1024]⟩
abbrev S4x1x1024 : Shape := ⟨3, ![4, 1, 1024]⟩
abbrev S4x8192x1024 : Shape := ⟨3, ![4, 8192, 1024]⟩
abbrev S4x1024x64 : Shape := ⟨3, ![4, 1024, 64]⟩
abbrev S4 : Shape := ⟨1, ![4]⟩
abbrev S4x1x1 : Shape := ⟨3, ![4, 1, 1]⟩
abbrev S4x8192x3x1 : Shape := ⟨4, ![4, 8192, 3, 1]⟩
abbrev S4x8192x3x2 : Shape := ⟨4, ![4, 8192, 3, 2]⟩
abbrev S4x8192x3x64 : Shape := ⟨4, ![4, 8192, 3, 64]⟩
abbrev S4x8192x64 : Shape := ⟨3, ![4, 8192, 64]⟩
abbrev S4x128x8192 : Shape := ⟨3, ![4, 128, 8192]⟩
abbrev S1x64x1 : Shape := ⟨3, ![1, 64, 1]⟩

abbrev nBuf : Space → Nat
  | .hbm => 181
  | .vmem => 0
  | .smem => 0
  | _ => 0

abbrev hbmTy0_0 (i : Nat) : BufTy := match i % 128 with
  | 0 => ⟨S4x3x8192, .f32⟩
  | 1 => ⟨S4x3x1024, .f32⟩
  | 2 => ⟨S4x64x8192, .f32⟩
  | 3 => ⟨S4x64x1024, .f32⟩
  | 4 => ⟨S64x128, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S4x8192x3, .f32⟩
  | 13 => ⟨S4x1024x3, .f32⟩
  | 14 => ⟨S4x8192x3, .f32⟩
  | 15 => ⟨S_, .f32⟩
  | 16 => ⟨S4x8192, .f32⟩
  | 17 => ⟨S4x8192x1, .f32⟩
  | 18 => ⟨S4x1024x3, .f32⟩
  | 19 => ⟨S_, .f32⟩
  | 20 => ⟨S4x1024, .f32⟩
  | 21 => ⟨S4x1x1024, .f32⟩
  | 22 => ⟨S4x8192x1024, .f32⟩
  | 23 => ⟨S4x8192x1024, .f32⟩
  | 24 => ⟨S4x8192x1024, .f32⟩
  | 25 => ⟨S4x8192x1024, .f32⟩
  | 26 => ⟨S_, .f32⟩
  | 27 => ⟨S4x8192x1024, .f32⟩
  | 28 => ⟨S4x8192x1024, .f32⟩
  | 29 => ⟨S4x8192x1024, .f32⟩
  | 30 => ⟨S_, .f32⟩
  | 31 => ⟨S4x8192x1024, .f32⟩
  | 32 => ⟨S4x8192x1024, .f32⟩
  | 33 => ⟨S4x8192x1024, .f32⟩
  | 34 => ⟨S4x8192x3, .f32⟩
  | 35 => ⟨S4x8192x3, .i32⟩
  | 36 => ⟨S4x8192x3, .f32⟩
  | 37 => ⟨S_, .f32⟩
  | 38 => ⟨S4x8192x3, .f32⟩
  | 39 => ⟨S4x8192x3, .f32⟩
  | 40 => ⟨S_, .f32⟩
  | 41 => ⟨S4x8192x3, .f32⟩
  | 42 => ⟨S4x8192x3, .f32⟩
  | 43 => ⟨S_, .f32⟩
  | 44 => ⟨S4x8192, .f32⟩
  | 45 => ⟨S4x8192x1, .f32⟩
  | 46 => ⟨S4x8192x3, .f32⟩
  | 47 => ⟨S4x8192x3, .f32⟩
  | 48 => ⟨S4x1024x64, .f32⟩
  | 49 => ⟨S4, .i32⟩
  | 50 => ⟨S4x1x1, .i32⟩
  | 51 => ⟨S_, .i32⟩
  | 52 => ⟨S4x1x1, .i32⟩
  | 53 => ⟨S4x1x1, .i1⟩
  | 54 => ⟨S_, .i32⟩
  | 55 => ⟨S4x1x1, .i32⟩
  | 56 => ⟨S4x1x1, .i32⟩
  | 57 => ⟨S4x1x1, .i32⟩
  | 58 => ⟨S_, .i32⟩
  | 59 => ⟨S4x8192x3, .i32⟩
  | 60 => ⟨S4x8192x3, .i1⟩
  | 61 => ⟨S_, .i32⟩
  | 62 => ⟨S4x8192x3, .i32⟩
  | 63 => ⟨S4x8192x3, .i32⟩
  | 64 => ⟨S4x8192x3, .i32⟩
  | 65 => ⟨S4x8192x3, .i32⟩
  | 66 => ⟨S4x8192x3x1, .i32⟩
  | 67 => ⟨S4x8192x3x1, .i32⟩
  | 68 => ⟨S4x8192x3x2, .i32⟩
  | 69 => ⟨S4x8192x3x64, .f32⟩
  | 70 => ⟨S4x8192x3x1, .f32⟩
  | 71 => ⟨S4x8192x3x64, .f32⟩
  | 72 => ⟨S4x8192x3x64, .f32⟩
  | 73 => ⟨S_, .f32⟩
  | 74 => ⟨S4x8192x64, .f32⟩
  | 75 => ⟨S4x64x8192, .f32⟩
  | 76 => ⟨S4x128x8192, .f32⟩
  | 77 => ⟨S4x8192x64, .f32⟩
  | 78 => ⟨S4x64x8192, .f32⟩
  | 79 => ⟨S1x64x1, .f32⟩
  | 80 => ⟨S4x64x8192, .f32⟩
  | 81 => ⟨S4x64x8192, .f32⟩
  | 82 => ⟨S_, .f32⟩
  | 83 => ⟨S64, .f32⟩
  | 84 => ⟨S1x64x1, .f32⟩
  | 85 => ⟨S_, .f32⟩
  | 86 => ⟨S1x64x1, .f32⟩
  | 87 => ⟨S1x64x1, .f32⟩
  | 88 => ⟨S_, .i32⟩
  | 89 => ⟨S_, .f32⟩
  | 90 => ⟨S64, .f32⟩
  | 91 => ⟨S1x64x1, .f32⟩
  | 92 => ⟨S_, .f32⟩
  | 93 => ⟨S1x64x1, .f32⟩
  | 94 => ⟨S1x64x1, .f32⟩
  | 95 => ⟨S4x64x8192, .f32⟩
  | 96 => ⟨S4x64x8192, .f32⟩
  | 97 => ⟨S4x64x8192, .f32⟩
  | 98 => ⟨S_, .f32⟩
  | 99 => ⟨S_, .f32⟩
  | 100 => ⟨S_, .f32⟩
  | 101 => ⟨S_, .f32⟩
  | 102 => ⟨S64, .f32⟩
  | 103 => ⟨S1x64x1, .f32⟩
  | 104 => ⟨S1x64x1, .f32⟩
  | 105 => ⟨S1x64x1, .f32⟩
  | 106 => ⟨S_, .f32⟩
  | 107 => ⟨S_, .i1⟩
  | 108 => ⟨S_, .f32⟩
  | 109 => ⟨S_, .f32⟩
  | 110 => ⟨S1x64x1, .f32⟩
  | 111 => ⟨S1x64x1, .f32⟩
  | 112 => ⟨S4x64x8192, .f32⟩
  | 113 => ⟨S4x64x8192, .f32⟩
  | 114 => ⟨S_, .f32⟩
  | 115 => ⟨S1x64x1, .f32⟩
  | 116 => ⟨S1x64x1, .f32⟩
  | 117 => ⟨S1x64x1, .f32⟩
  | 118 => ⟨S4x64x8192, .f32⟩
  | 119 => ⟨S4x64x8192, .f32⟩
  | 120 => ⟨S1x64x1, .f32⟩
  | 121 => ⟨S4x64x8192, .f32⟩
  | 122 => ⟨S4x64x8192, .f32⟩
  | 123 => ⟨S1x64x1, .f32⟩
  | 124 => ⟨S4x64x8192, .f32⟩
  | 125 => ⟨S4x64x8192, .f32⟩
  | 126 => ⟨S_, .f32⟩
  | 127 => ⟨S4x64x8192, .f32⟩
  | _ => ⟨S4x3x8192, .f32⟩

abbrev hbmTy0_1 (i : Nat) : BufTy := match i % 128 with
  | 0 => ⟨S4x64x8192, .f32⟩
  | 1 => ⟨S4x8192x64, .f32⟩
  | 2 => ⟨S4x64x8192, .f32⟩
  | 3 => ⟨S1x64x1, .f32⟩
  | 4 => ⟨S4x64x8192, .f32⟩
  | 5 => ⟨S4x64x8192, .f32⟩
  | 6 => ⟨S_, .f32⟩
  | 7 => ⟨S64, .f32⟩
  | 8 => ⟨S1x64x1, .f32⟩
  | 9 => ⟨S_, .f32⟩
  | 10 => ⟨S1x64x1, .f32⟩
  | 11 => ⟨S1x64x1, .f32⟩
  | 12 => ⟨S_, .i32⟩
  | 13 => ⟨S_, .f32⟩
  | 14 => ⟨S64, .f32⟩
  | 15 => ⟨S1x64x1, .f32⟩
  | 16 => ⟨S_, .f32⟩
  | 17 => ⟨S1x64x1, .f32⟩
  | 18 => ⟨S1x64x1, .f32⟩
  | 19 => ⟨S4x64x8192, .f32⟩
  | 20 => ⟨S4x64x8192, .f32⟩
  | 21 => ⟨S4x64x8192, .f32⟩
  | 22 => ⟨S_, .f32⟩
  | 23 => ⟨S_, .f32⟩
  | 24 => ⟨S_, .f32⟩
  | 25 => ⟨S_, .f32⟩
  | 26 => ⟨S64, .f32⟩
  | 27 => ⟨S1x64x1, .f32⟩
  | 28 => ⟨S1x64x1, .f32⟩
  | 29 => ⟨S1x64x1, .f32⟩
  | 30 => ⟨S_, .f32⟩
  | 31 => ⟨S_, .i1⟩
  | 32 => ⟨S_, .f32⟩
  | 33 => ⟨S_, .f32⟩
  | 34 => ⟨S1x64x1, .f32⟩
  | 35 => ⟨S1x64x1, .f32⟩
  | 36 => ⟨S4x64x8192, .f32⟩
  | 37 => ⟨S4x64x8192, .f32⟩
  | 38 => ⟨S_, .f32⟩
  | 39 => ⟨S1x64x1, .f32⟩
  | 40 => ⟨S1x64x1, .f32⟩
  | 41 => ⟨S1x64x1, .f32⟩
  | 42 => ⟨S4x64x8192, .f32⟩
  | 43 => ⟨S4x64x8192, .f32⟩
  | 44 => ⟨S1x64x1, .f32⟩
  | 45 => ⟨S4x64x8192, .f32⟩
  | 46 => ⟨S4x64x8192, .f32⟩
  | 47 => ⟨S1x64x1, .f32⟩
  | 48 => ⟨S4x64x8192, .f32⟩
  | 49 => ⟨S4x64x8192, .f32⟩
  | 50 => ⟨S_, .f32⟩
  | 51 => ⟨S4x64x8192, .f32⟩
  | 52 => ⟨S4x64x8192, .f32⟩
  | _ => ⟨S4x3x8192, .f32⟩

abbrev hbmTy (i : Nat) : BufTy := match i / 128 with
  | 0 => hbmTy0_0 i
  | 1 => hbmTy0_1 i
  | _ => ⟨S4x3x8192, .f32⟩

abbrev bufTy : (tb : Table) → Fin (tcTables nBuf tb) → BufTy
  | .hbm, ⟨i, _⟩ => hbmTy i
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_values : Ref sig .tc := ⟨.hbm, 34, rfl⟩
abbrev main_indices : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_cst_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_cst_1 : Ref sig .tc := ⟨.hbm, 99, rfl⟩
abbrev main_call0_v8 : Ref sig .tc := ⟨.hbm, 100, rfl⟩
abbrev main_call0_cst_2 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_v12 : Ref sig .tc := ⟨.hbm, 105, rfl⟩
abbrev main_call0_cst_3 : Ref sig .tc := ⟨.hbm, 106, rfl⟩
abbrev main_call0_v13 : Ref sig .tc := ⟨.hbm, 107, rfl⟩
abbrev main_call0_cst_4 : Ref sig .tc := ⟨.hbm, 108, rfl⟩
abbrev main_call0_call0_v0 : Ref sig .tc := ⟨.hbm, 109, rfl⟩
abbrev main_call0_call0_v1 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_13 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_call1_cst : Ref sig .tc := ⟨.hbm, 126, rfl⟩
abbrev main_call1_v0 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_14 : Ref sig .tc := ⟨.hbm, 134, rfl⟩
abbrev main_v80 : Ref sig .tc := ⟨.hbm, 135, rfl⟩
abbrev main_v81 : Ref sig .tc := ⟨.hbm, 136, rfl⟩
abbrev main_cst_15 : Ref sig .tc := ⟨.hbm, 137, rfl⟩
abbrev main_v82 : Ref sig .tc := ⟨.hbm, 138, rfl⟩
abbrev main_v83 : Ref sig .tc := ⟨.hbm, 139, rfl⟩
abbrev main_c_16 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_cst_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_cst_1 : Ref sig .tc := ⟨.hbm, 151, rfl⟩
abbrev main_call2_v8 : Ref sig .tc := ⟨.hbm, 152, rfl⟩
abbrev main_call2_cst_2 : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_v12 : Ref sig .tc := ⟨.hbm, 157, rfl⟩
abbrev main_call2_cst_3 : Ref sig .tc := ⟨.hbm, 158, rfl⟩
abbrev main_call2_v13 : Ref sig .tc := ⟨.hbm, 159, rfl⟩
abbrev main_call2_cst_4 : Ref sig .tc := ⟨.hbm, 160, rfl⟩
abbrev main_call2_call0_v0 : Ref sig .tc := ⟨.hbm, 161, rfl⟩
abbrev main_call2_call0_v1 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_cst_17 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_call3_cst : Ref sig .tc := ⟨.hbm, 178, rfl⟩
abbrev main_call3_v0 : Ref sig .tc := ⟨.hbm, 179, rfl⟩
abbrev main_v98 : Ref sig .tc := ⟨.hbm, 180, rfl⟩

abbrev nD : Nat := 1
abbrev τ : Topo := Topo.v7x

variable {F : FTy → Type} [FloatOps F]
-- ==== Proof.Ideal.Run0A.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.VecWindow
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the first branch of the first call: the second coordinate is zero. -/
abbrev cond0_0 (i : grid0.Coords) : Prop :=
  (Scalar.cmpi .ne (Scalar.extui (Scalar.cmpi .eq (BitVec.ofNat 32 (i 1).val) 0#32)) 0#32) = 1#1
/-- The condition of its second branch: both coordinates are zero. -/
abbrev cond0_1 (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- The first branch is taken at the points that are multiples of eight. -/
theorem hcond0_0 : ∀ t : Fin cfg0.N, cond0_0 (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [cond0_0, e1]
    word_cmp
   : ∀ t : Fin grid0.N, cond0_0 (grid0.coords t) ↔ t.val % 8 = 0)

/-- The second branch is taken at the first point only. -/
theorem hcond0_1 : ∀ t : Fin cfg0.N, cond0_1 (grid0.coords t) ↔ t.val = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val = 0)

/-- The first layer before its bias at one tile: from the query block, the key block, the key norms, the query
    features, the key features and the weights. -/
def h1a (x0 : Vec F S1x3x1024 .f32) (x1 : Vec F S1x1024x3 .f32) (kn : Vec F S1024x1 .f32) (x2 x3 : Vec F S1x64x1024 .f32)
    (x4 : Vec F S64x128 .f32) : FVec F S64x1024 .f32 :=
  k0_pay14 (k0_pay7 x0 x1 kn) (k0_pay8 x0 x1 kn) (k0_pay10 x0 x1 kn) (k0_pay11 x0 x1 kn) (k0_pay12 x0 x1 kn) k0_pay13 x3
    (View.ld x4 (Rect.unit (s := S64x128) ![0, 0] S64x64.size inb_S64x128_S64x64_0_0))
    (View.ld x4 (Rect.unit (s := S64x128) ![0, 64] S64x64.size inb_S64x128_S64x64_0_64)) x2

set_option maxHeartbeats 1000000 in
/-- One step of the first call at the first point: the key norms are computed and the running sums start from zero. -/
theorem run0_A (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S64x128 .f32) (harg6 : arg6.IsWhole) (arg7 : Memref sig .tc .vmem S64x1 .f32) (harg7 : arg7.IsWhole) (arg8 : Memref sig .tc .vmem S1x64x1024 .f32) (harg8 : arg8.IsWhole) (arg9 : Memref sig .tc .vmem S64x2 .f32) (harg9 : arg9.IsWhole) (arg10 : Memref sig .tc .vmem S1024x1 .f32) (harg10 : arg10.IsWhole)
    (hc0 : cond0_0 i) (hc1 : cond0_1 i) (x0 : Vec F S1x3x1024 .f32) (x1 : Vec F S1x1024x3 .f32) (x2 x3 : Vec F S1x64x1024 .f32) (x4 : Vec F S64x128 .f32) (x5 : Vec F S64x1 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (h1a x0 x1 (k0_pay6 x1) x2 x3 x4) (k0_pay15 x5)) ∗ owns (c : Thread nD τ) arg9 fullShare (k0_pay4 (h1a x0 x1 (k0_pay6 x1) x2 x3 x4) (k0_pay15 x5) k0_pay3) ∗ owns (c : Thread nD τ) arg10 fullShare (k0_pay6 x1)) -∗ K ⟨⟩))
        ⊢ wp frame (wpE (defs₀ (F := F)) Variants.none c none) E (cc0__p1_body i arg2 harg2 arg3 harg3 arg4 harg4 arg5 harg5 arg6 harg6 arg7 harg7 arg8 harg8 arg9 harg9 arg10 harg10) K := by
  intro E K
  simp only [cc0__p1_body_eq_skeleton]; unfold cc0__p1_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    frame_open
    simp (disch := decide) only [View.ld_unit_lit', View.readCov_unit_lit', View.readCov_cons_unit_lit', View.readAt_eq_ld,
      Memref.IsWhole.read_unread]
    try rfl
  isplitl [H7]
  · iexists _; isplitr; swap; · iexact H7
    ipureintro
    refine (View.read_writes_full _ _ _ _ _).trans ?_
    frame_open
    simp (disch := decide) only [View.ld_unit_lit', View.readCov_unit_lit', View.readCov_cons_unit_lit', View.readAt_eq_ld,
      Memref.IsWhole.read_unread]
    try rfl
  iexists _; isplitr; swap; · iexact H8
  ipureintro
  refine (View.read_writes_full _ _ _ _ _).trans ?_
  frame_open
  simp (disch := decide) only [View.ld_unit_lit', View.readCov_unit_lit', View.readCov_cons_unit_lit', View.readAt_eq_ld,
    Memref.IsWhole.read_unread]
  try rfl

end Cert.KernelIdeal.Hand

end
-- ==== Proof.Ideal.Run0B.lean ====
module

public import proofs.«01_k».proof.Proof.Ideal.Run0A

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- One step of the first call away from a batch's first point: the key norms are those kept. -/
theorem run0_B (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S64x128 .f32) (harg6 : arg6.IsWhole) (arg7 : Memref sig .tc .vmem S64x1 .f32) (harg7 : arg7.IsWhole) (arg8 : Memref sig .tc .vmem S1x64x1024 .f32) (harg8 : arg8.IsWhole) (arg9 : Memref sig .tc .vmem S64x2 .f32) (harg9 : arg9.IsWhole) (arg10 : Memref sig .tc .vmem S1024x1 .f32) (harg10 : arg10.IsWhole)
    (hc0 : ¬cond0_0 i) (hc1 : ¬cond0_1 i) (x0 : Vec F S1x3x1024 .f32) (x1 : Vec F S1x1024x3 .f32) (x2 x3 : Vec F S1x64x1024 .f32) (x4 : Vec F S64x128 .f32) (x5 : Vec F S64x1 .f32) (kn : Vec F S1024x1 .f32) (st : Vec F S64x2 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare st ∗ owns (c : Thread nD τ) arg10 fullShare kn
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (h1a x0 x1 kn x2 x3 x4) (k0_pay15 x5)) ∗ owns (c : Thread nD τ) arg9 fullShare (k0_pay4 (h1a x0 x1 kn x2 x3 x4) (k0_pay15 x5) st) ∗ owns (c : Thread nD τ) arg10 fullShare kn) -∗ K ⟨⟩))
        ⊢ wp frame (wpE (defs₀ (F := F)) Variants.none c none) E (cc0__p1_body i arg2 harg2 arg3 harg3 arg4 harg4 arg5 harg5 arg6 harg6 arg7 harg7 arg8 harg8 arg9 harg9 arg10 harg10) K := by
  intro E K
  simp only [cc0__p1_body_eq_skeleton]; unfold cc0__p1_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7
  obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    frame_open
    simp (disch := decide) only [View.ld_unit_lit', View.readCov_unit_lit', View.readCov_cons_unit_lit', View.readAt_eq_ld,
      Memref.IsWhole.read_unread]
    try rfl
  isplitl [H7]
  · iexists _; isplitr; swap; · iexact H7
    ipureintro
    refine (View.read_writes_full _ _ _ _ _).trans ?_
    frame_open
    simp (disch := decide) only [View.ld_unit_lit', View.readCov_unit_lit', View.readCov_cons_unit_lit', View.readAt_eq_ld,
      Memref.IsWhole.read_unread]
    try rfl
  iexists _; isplitr; swap; · iexact H8
  ipureintro
  exact harg10.read_unread _

end Cert.KernelIdeal.Hand

end
-- ==== Proof.Ideal.Run0C.lean ====
module

public import proofs.«01_k».proof.Proof.Ideal.Run0B

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- One step of the first call at the first point of a later batch: the key norms are computed anew. -/
theorem run0_C (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S64x128 .f32) (harg6 : arg6.IsWhole) (arg7 : Memref sig .tc .vmem S64x1 .f32) (harg7 : arg7.IsWhole) (arg8 : Memref sig .tc .vmem S1x64x1024 .f32) (harg8 : arg8.IsWhole) (arg9 : Memref sig .tc .vmem S64x2 .f32) (harg9 : arg9.IsWhole) (arg10 : Memref sig .tc .vmem S1024x1 .f32) (harg10 : arg10.IsWhole)
    (hc0 : cond0_0 i) (hc1 : ¬cond0_1 i) (x0 : Vec F S1x3x1024 .f32) (x1 : Vec F S1x1024x3 .f32) (x2 x3 : Vec F S1x64x1024 .f32) (x4 : Vec F S64x128 .f32) (x5 : Vec F S64x1 .f32) (st : Vec F S64x2 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare st ∗ (∃ d, owns (c : Thread nD τ) arg10 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (h1a x0 x1 (k0_pay6 x1) x2 x3 x4) (k0_pay15 x5)) ∗ owns (c : Thread nD τ) arg9 fullShare (k0_pay4 (h1a x0 x1 (k0_pay6 x1) x2 x3 x4) (k0_pay15 x5) st) ∗ owns (c : Thread nD τ) arg10 fullShare (k0_pay6 x1)) -∗ K ⟨⟩))
        ⊢ wp frame (wpE (defs₀ (F := F)) Variants.none c none) E (cc0__p1_body i arg2 harg2 arg3 harg3 arg4 harg4 arg5 harg5 arg6 harg6 arg7 harg7 arg8 harg8 arg9 harg9 arg10 harg10) K := by
  intro E K
  simp only [cc0__p1_body_eq_skeleton]; unfold cc0__p1_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    frame_open
    simp (disch := decide) only [View.ld_unit_lit', View.readCov_unit_lit', View.readCov_cons_unit_lit', View.readAt_eq_ld,
      Memref.IsWhole.read_unread]
    try rfl
  isplitl [H7]
  · iexists _; isplitr; swap; · iexact H7
    ipureintro
    refine (View.read_writes_full _ _ _ _ _).trans ?_
    frame_open
    simp (disch := decide) only [View.ld_unit_lit', View.readCov_unit_lit', View.readCov_cons_unit_lit', View.readAt_eq_ld,
      Memref.IsWhole.read_unread]
    try rfl
  iexists _; isplitr; swap; · iexact H8
  ipureintro
  refine (View.read_writes_full _ _ _ _ _).trans ?_
  frame_open
  simp (disch := decide) only [View.ld_unit_lit', View.readCov_unit_lit', View.readCov_cons_unit_lit', View.readAt_eq_ld,
    Memref.IsWhole.read_unread]
  try rfl

end Cert.KernelIdeal.Hand

end
-- ==== Proof.Ideal.Run1A.lean ====
module

public import proofs.«01_k».proof.Proof.Ideal.Run0C

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first phase of the second call runs at the points below four. -/
theorem hcond1_1 : ∀ t : Fin cfg1.N, k1_cond1 (grid1.coords t) = 1#1 ↔ t.val < 4 :=
  (fun t => by
    have ht : t.val < 8 := Nat.lt_of_lt_of_eq t.isLt N_1
    have e0 : (grid1.coords t 0).val = t.val / 4 % 2 := Pipeline.Grid.coords_val t 0 (by decide) rfl
    simp only [k1_cond1, e0]
    word_cmp
   : ∀ t : Fin grid1.N, k1_cond1 (grid1.coords t) = 1#1 ↔ t.val < 4)

/-- The second phase runs at the points from four on. -/
theorem hcond1_2 : ∀ t : Fin cfg1.N, k1_cond2 (grid1.coords t) = 1#1 ↔ 4 ≤ t.val :=
  (fun t => by
    have ht : t.val < 8 := Nat.lt_of_lt_of_eq t.isLt N_1
    have e0 : (grid1.coords t 0).val = t.val / 4 % 2 := Pipeline.Grid.coords_val t 0 (by decide) rfl
    simp only [k1_cond2, e0]
    word_cmp
   : ∀ t : Fin grid1.N, k1_cond2 (grid1.coords t) = 1#1 ↔ 4 ≤ t.val)

/-- The second layer before its scale and shift, of one batch: from the first layer's batch, the two sums of its
    columns, the scale and shift, and the second layer's weights and bias. -/
def h2a (x0 : Vec F S1x64x8192 .f32) (x1 : Vec F S64x2 .f32) (x2 x3 : Vec F S64x1 .f32) (x4 : Vec F S64x64 .f32) (x5 : Vec F S64x1 .f32) :
    FVec F S64x8192 .f32 :=
  k1_pay3 (View.ld x1 (Rect.unit (s := S64x2) ![0, 0] S64x1.size inb_S64x2_S64x1_0_0))
    (View.ld x1 (Rect.unit (s := S64x2) ![0, 1] S64x1.size inb_S64x2_S64x1_0_1)) x2 x3 x0 x4 x5

/-- The batch's second layer as a slab of the scratch buffer. -/
def h2s (x0 : Vec F S1x64x8192 .f32) (x1 : Vec F S64x2 .f32) (x2 x3 : Vec F S64x1 .f32) (x4 : Vec F S64x64 .f32) (x5 : Vec F S64x1 .f32) :
    FVec F S1x64x8192 .f32 :=
  k1_pay4 (View.ld x1 (Rect.unit (s := S64x2) ![0, 0] S64x1.size inb_S64x2_S64x1_0_0))
    (View.ld x1 (Rect.unit (s := S64x2) ![0, 1] S64x1.size inb_S64x2_S64x1_0_1)) x2 x3 x0 x4 x5

/-- The result's batch: from the slab of the second layer, its two sums, and the last scale and shift. -/
def outb (s : Vec F S64x2 .f32) (x6 x7 : Vec F S64x1 .f32) (h : Vec F S1x64x8192 .f32) : FVec F S1x64x8192 .f32 :=
  k1_pay2 (View.ld s (Rect.unit (s := S64x2) ![0, 0] S64x1.size inb_S64x2_S64x1_0_0))
    (View.ld s (Rect.unit (s := S64x2) ![0, 1] S64x1.size inb_S64x2_S64x1_0_1)) x6 x7 h

set_option maxHeartbeats 1000000 in
/-- One step of the second call in its first phase: the batch's second layer goes to its slab of the scratch buffer and
    is added to the running sums; the result block is left as found. -/
theorem run1_A (c : Dev nD) (i : grid1.Coords) (arg2 : Memref sig .tc .vmem S1x64x8192 .f32) (harg2 : arg2.IsWhole) (arg3 : Memref sig .tc .vmem S64x2 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S1x64x8192 .f32) (harg10 : arg10.IsWhole) (arg11 : Memref sig .tc .vmem S4x64x8192 .f32) (harg11 : arg11.IsWhole) (arg12 : Memref sig .tc .vmem S64x2 .f32) (harg12 : arg12.IsWhole)
    (hc0 : k1_cond1 i = 1#1) (hc1 : ¬k1_cond2 i = 1#1) (x0 : Vec F S1x64x8192 .f32) (x1 : Vec F S64x2 .f32) (x2 x3 : Vec F S64x1 .f32) (x4 : Vec F S64x64 .f32) (x5 x6 x7 : Vec F S64x1 .f32) (x8 : Vec F S1x64x8192 .f32) (x9 : Vec F S4x64x8192 .f32) (x10 : Vec F S64x2 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (VecWindow.put x9 (k1_off1 i) S1x64x8192.size (h2s x0 x1 x2 x3 x4 x5)) ∗ owns (c : Thread nD τ) arg12 fullShare (k1_pay1 i (h2a x0 x1 x2 x3 x4 x5) x10)) -∗ K ⟨⟩))
        ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12) K := by
  intro E K
  simp only [cc1__p23_body_eq_skeleton]; unfold cc1__p23_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (View.read_writes_cons_put _ _ _ _ _ rfl).trans ?_
    rw [View.writes_nil, Memref.IsWhole.read_unread]
    frame_open
    simp (disch := decide) only [View.ld_unit_lit', View.readCov_unit_lit', View.readCov_cons_unit_lit', View.readAt_eq_ld,
      Memref.IsWhole.read_unread]
    try rfl
  iexists _; isplitr; swap; · iexact H10
  ipureintro
  refine (View.read_writes_full _ _ _ _ _).trans ?_
  frame_open
  simp (disch := decide) only [View.ld_unit_lit', View.readCov_unit_lit', View.readCov_cons_unit_lit', View.readAt_eq_ld,
    Memref.IsWhole.read_unread]
  try rfl

end Cert.KernelIdeal.Hand

end
-- ==== Proof.Ideal.Run1B.lean ====
module

public import proofs.«01_k».proof.Proof.Ideal.Run1A

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- One step of the second call in its second phase: the result block is computed from the batch's slab and the sums. -/
theorem run1_B (c : Dev nD) (i : grid1.Coords) (arg2 : Memref sig .tc .vmem S1x64x8192 .f32) (harg2 : arg2.IsWhole) (arg3 : Memref sig .tc .vmem S64x2 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S1x64x8192 .f32) (harg10 : arg10.IsWhole) (arg11 : Memref sig .tc .vmem S4x64x8192 .f32) (harg11 : arg11.IsWhole) (arg12 : Memref sig .tc .vmem S64x2 .f32) (harg12 : arg12.IsWhole)
    (hc0 : ¬k1_cond1 i = 1#1) (hc1 : k1_cond2 i = 1#1) (x0 : Vec F S1x64x8192 .f32) (x1 : Vec F S64x2 .f32) (x2 x3 : Vec F S64x1 .f32) (x4 : Vec F S64x64 .f32) (x5 x6 x7 : Vec F S64x1 .f32) (x8 : Vec F S1x64x8192 .f32) (x9 : Vec F S4x64x8192 .f32) (x10 : Vec F S64x2 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outb x10 x6 x7 (View.ld x9 (Rect.unit (s := S4x64x8192) (k1_off2 i) S1x64x8192.size (k1_off2_inb i hc1)))) ∗ owns (c : Thread nD τ) arg11 fullShare x9 ∗ owns (c : Thread nD τ) arg12 fullShare x10) -∗ K ⟨⟩))
        ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12) K := by
  intro E K
  simp only [cc1__p23_body_eq_skeleton]; unfold cc1__p23_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full _ _ _ _ _).trans ?_
    frame_open
    simp (disch := decide) only [View.ld_unit_lit', View.readCov_unit_lit', View.readCov_cons_unit_lit', View.readAt_eq_ld,
      Memref.IsWhole.read_unread]
    try rfl
  isplitl [H9]
  · iexists _; isplitr; · ipureintro; exact harg11.read_unread _
    iexact H9
  iexists _; isplitr; · ipureintro; exact harg12.read_unread _
  iexact H10

end Cert.KernelIdeal.Hand

end
-- ==== Proof.Ideal.Dat0.lean ====
module

public import proofs.«01_k».proof.Proof.Ideal.Run1B
public import proofs.«01_k».proof.Proof.Gen.KernelIdeal.Regions
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-! ## What the first call reads and leaves, point by point -/

/-- The block of window `w` at point `t`, read from the contents found at the call's start. -/
def iblk0 (c : Dev nD) (w : Fin cfg0.W) (t : Fin cfg0.N) :=
  ((cfg0.win w).blk t).view.read (Elt F) (W c (Proc.devRef .tc (Pipeline.arrRef spec0 w)))

/-- The key norms held in the scratch buffer after the point `n`. -/
def knAt (c : Dev nD) : (n : ℕ) → n < cfg0.N → FVec F S1024x1 .f32
  | 0, h => k0_pay6 (iblk0 W c 1 ⟨0, h⟩)
  | n + 1, h => if (n + 1) % 8 = 0 then k0_pay6 (iblk0 W c 1 ⟨n + 1, h⟩) else knAt c n (Nat.lt_of_succ_lt h)

/-- The first layer before its bias at a point. -/
def h1At (c : Dev nD) (t : Fin cfg0.N) : FVec F S64x1024 .f32 :=
  h1a (iblk0 W c 0 t) (iblk0 W c 1 t) (knAt W c t.val t.isLt) (iblk0 W c 2 t) (iblk0 W c 3 t) (iblk0 W c 4 t)

/-- The running sums of the first layer after the point `n`. -/
def stAt (c : Dev nD) : (n : ℕ) → n < cfg0.N → FVec F S64x2 .f32
  | 0, h => k0_pay4 (h1At W c ⟨0, h⟩) (k0_pay15 (iblk0 W c 5 ⟨0, h⟩)) k0_pay3
  | n + 1, h => k0_pay4 (h1At W c ⟨n + 1, h⟩) (k0_pay15 (iblk0 W c 5 ⟨n + 1, h⟩)) (stAt c n (Nat.lt_of_succ_lt h))

theorem knAt_reset (c : Dev nD) (t : Fin cfg0.N) (h : t.val % 8 = 0) : knAt W c t.val t.isLt = k0_pay6 (iblk0 W c 1 t) := by
  obtain ⟨n, hn⟩ := t
  cases n with
  | zero => rfl
  | succ n => exact if_pos h

theorem knAt_keep (c : Dev nD) (t : Fin cfg0.N) (h : ¬t.val % 8 = 0) :
    knAt W c t.val t.isLt = knAt W c (t.val - 1) (Nat.lt_of_le_of_lt (Nat.sub_le _ _) t.isLt) := by
  obtain ⟨n, hn⟩ := t
  cases n with
  | zero => exact absurd rfl h
  | succ n => exact if_neg h

theorem stAt_zero (c : Dev nD) (t : Fin cfg0.N) (h : t.val = 0) :
    stAt W c t.val t.isLt = k0_pay4 (h1At W c t) (k0_pay15 (iblk0 W c 5 t)) k0_pay3 := by
  obtain ⟨n, hn⟩ := t
  cases n with
  | zero => rfl
  | succ n => exact absurd h (Nat.succ_ne_zero n)

theorem stAt_succ (c : Dev nD) (t : Fin cfg0.N) (h : ¬t.val = 0) :
    stAt W c t.val t.isLt = k0_pay4 (h1At W c t) (k0_pay15 (iblk0 W c 5 t))
      (stAt W c (t.val - 1) (Nat.lt_of_le_of_lt (Nat.sub_le _ _) t.isLt)) := by
  obtain ⟨n, hn⟩ := t
  cases n with
  | zero => exact absurd rfl h
  | succ n => rfl

/-- The scratch buffer of the first call. -/
abbrev sc0 : Memref sig .tc .vmem S1024x1 .f32 := Memref.whole cc0_scratch0

/-- The second call's staging and scratch buffers, at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The invariant of the first call: before the point `t` the scratch buffer holds the key norms of the point before. -/
def Phi0 (c : Dev nD) (t : ℕ) : sProp 𝕄 :=
  iprop((∃ d, ⌜∀ (h0 : 0 < t) (h : t - 1 < cfg0.N), d = knAt W c (t - 1) h⌝ ∗ owns (c : Thread nD τ) sc0 fullShare d)
    ∗ rest0 c ∗ (∃ r, prngReg c r))

/-- The proof data of the first call. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => k0_pay2 (h1At W c t) (k0_pay15 (iblk0 W c 5 t))
    | ⟨7, _⟩ => stAt W c t.val t.isLt
  Φ t := Phi0 W c t.val
  q _ := fullShare
  owed _ := 0

theorem A0_eq (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = k0_pay2 (h1At W c t) (k0_pay15 (iblk0 W c 5 t)) := by dsimp only [dat0]
theorem after0_7 (c : Dev nD) (t : Fin cfg0.N) : (dat0 W c).after 7 t = stAt W c t.val t.isLt := by dsimp only [dat0]

theorem before0_0 (c : Dev nD) (t : Fin cfg0.N) (d) : (dat0 W c).before 0 t d = iblk0 W c 0 t :=
  ((dat0 W c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W c).before 1 t d = iblk0 W c 1 t :=
  ((dat0 W c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 W c).before 2 t d = iblk0 W c 2 t :=
  ((dat0 W c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 W c).before 3 t d = iblk0 W c 3 t :=
  ((dat0 W c).before_in_eq_fetched 3 rfl (fun _ => rfl) (fun _ _ _ => rfl)
    (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 W c).before 4 t d = iblk0 W c 4 t :=
  ((dat0 W c).before_in_eq_fetched 4 rfl (fun _ => rfl) (fun _ _ _ => rfl)
    (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 W c).before 5 t d = iblk0 W c 5 t :=
  ((dat0 W c).before_in_eq_fetched 5 rfl (fun _ => rfl) (fun _ _ _ => rfl)
    (fun t => by rw [after0_5]; unfold Dat.blockOf iblk0; rw [A0_eq]; try rfl) t d).trans
    (by unfold Dat.fetched Dat.blockOf iblk0; rw [A0_eq]; try rfl)

theorem before0_7 (c : Dev nD) (t : Fin cfg0.N) (h : ¬t.val = 0) (d) : (dat0 W c).before 7 t d
    = stAt W c (t.val - 1) (Nat.lt_of_le_of_lt (Nat.sub_le _ _) t.isLt) :=
  ((dat0 W c).before_out_kept 7 rfl t h
    (by
      have hN : t.val < 32 := lt_of_lt_of_eq t.isLt N_0
      refine Bool.eq_false_iff.mpr fun hf => ?_
      have := (flush0_7 _).mp hf
      simp only at this
      omega) (fun _ => rfl) (fun _ _ => rfl) d).trans (after0_7 W c _)

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)

/-- What the body is called with at point `t`. -/
def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d))
    ∗ (∃ d, owns (c : Thread nD τ) (ms0_6 t) fullShare ((dat0 W c).before 6 t d))
    ∗ (∃ d, owns (c : Thread nD τ) (ms0_7 t) fullShare ((dat0 W c).before 7 t d)))

/-- What it returns. -/
def bodyPost0 (c : Dev nD) (t : Fin cfg0.N) : sProp 𝕄 :=
  iprop((dat0 W c).Φ t.succ ∗ (dat0 W c).owesAt () t.succ
    ∗ owns (c : Thread nD τ) (ms0_0 t) fullShare ((dat0 W c).after 0 t)
    ∗ owns (c : Thread nD τ) (ms0_1 t) fullShare ((dat0 W c).after 1 t)
    ∗ owns (c : Thread nD τ) (ms0_2 t) fullShare ((dat0 W c).after 2 t)
    ∗ owns (c : Thread nD τ) (ms0_3 t) fullShare ((dat0 W c).after 3 t)
    ∗ owns (c : Thread nD τ) (ms0_4 t) fullShare ((dat0 W c).after 4 t)
    ∗ owns (c : Thread nD τ) (ms0_5 t) fullShare ((dat0 W c).after 5 t)
    ∗ owns (c : Thread nD τ) (ms0_6 t) fullShare ((dat0 W c).after 6 t)
    ∗ owns (c : Thread nD τ) (ms0_7 t) fullShare ((dat0 W c).after 7 t))

set_option maxHeartbeats 2400000 in
/-- The body at any point of the first call. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5]
  rw [show (dat0 W c).Φ t.succ = Phi0 W c (t.val + 1) from rfl, show (dat0 W c).Φ t.castSucc = Phi0 W c t.val from rfl,
    show (dat0 W c).owesAt () t.succ = (dat0 W c).owesAt () t.castSucc from rfl,
    after0_0, after0_1, after0_2, after0_3, after0_4, after0_5, after0_6, after0_7]
  unfold Phi0
  have hN : t.val < 32 := lt_of_lt_of_eq t.isLt N_0
  by_cases h0 : t.val % 8 = 0
  · have ek := knAt_reset W c t h0
    unfold h1At
    rw [ek]
    by_cases h1 : t.val = 0
    · rw [stAt_zero W c t h1]; unfold h1At; rw [ek]
      iintro ⟨⟨⟨%dk, %hk, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_A c (grid0.coords t) _ (hs0_0 t) _ (hs0_1 t) _ (hs0_2 t) _ (hs0_3 t) _ (hs0_4 t) _ (hs0_5 t) _ (hs0_6 t) _ (hs0_7 t) _ (Memref.isWhole_whole _) ((hcond0_0 t).mpr h0) ((hcond0_1 t).mpr h1) (iblk0 W c 0 t) (iblk0 W c 1 t) (iblk0 W c 2 t) (iblk0 W c 3 t) (iblk0 W c 4 t) (iblk0 W c 5 t)   Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, H6, H7, HS⟩
      isplitl [HS Hr Hg]
      · isplitl [HS]
        · iexists _
          isplitr; swap; · iexact HS
          ipureintro
          intro _ _
          exact ek.symm
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [stAt_succ W c t h1]; unfold h1At; rw [ek]
      simp only [before0_7 W c t h1]
      iintro ⟨⟨⟨%dk, %hk, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) _ (hs0_0 t) _ (hs0_1 t) _ (hs0_2 t) _ (hs0_3 t) _ (hs0_4 t) _ (hs0_5 t) _ (hs0_6 t) _ (hs0_7 t) _ (Memref.isWhole_whole _) ((hcond0_0 t).mpr h0) (fun h => h1 ((hcond0_1 t).mp h)) (iblk0 W c 0 t) (iblk0 W c 1 t) (iblk0 W c 2 t) (iblk0 W c 3 t) (iblk0 W c 4 t) (iblk0 W c 5 t)  _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexists _; iexact HS
      iintro ⟨H0, H1, H2, H3, H4, H5, H6, H7, HS⟩
      isplitl [HS Hr Hg]
      · isplitl [HS]
        · iexists _
          isplitr; swap; · iexact HS
          ipureintro
          intro _ _
          exact ek.symm
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have h1 : ¬t.val = 0 := fun e => h0 (by omega)
    have ek := knAt_keep W c t h0
    rw [stAt_succ W c t h1]
    unfold h1At
    rw [ek]
    simp only [before0_7 W c t h1]
    iintro ⟨⟨⟨%dk, %hk, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hk (by omega) (by omega)
    iapply (run0_B c (grid0.coords t) _ (hs0_0 t) _ (hs0_1 t) _ (hs0_2 t) _ (hs0_3 t) _ (hs0_4 t) _ (hs0_5 t) _ (hs0_6 t) _ (hs0_7 t) _ (Memref.isWhole_whole _) (fun h => h0 ((hcond0_0 t).mp h)) (fun h => h1 ((hcond0_1 t).mp h)) (iblk0 W c 0 t) (iblk0 W c 1 t) (iblk0 W c 2 t) (iblk0 W c 3 t) (iblk0 W c 4 t) (iblk0 W c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS Hr Hg]
    · isplitl [HS]
      · iexists _
        isplitr; swap; · iexact HS
        ipureintro
        intro _ _
        exact ek.symm
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row is the body at the point's slots. -/
theorem defs₀_row0 (t : Fin cfg0.N) :
    defs₀ (F := F) .tc cfg0.body (cfg0.bodyArgs t (cfg0.slots t)) = bodyAt0 t := by
  unfold defs₀; rw [Defs.onTc_tc]

/-- The obligation of the first call's body, at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Hand

end
-- ==== Proof.Ideal.Dat1.lean ====
module

public import proofs.«01_k».proof.Proof.Ideal.Dat0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem flush1_8 : ∀ t : Fin cfg1.N, (win1 8).flush t = decide (4 ≤ t.val) :=
  (by decide +kernel : ∀ t : Fin grid1.N, win1_8.flush t = decide (4 ≤ t.val))
theorem idle1_8 : ∀ t : Fin cfg1.N, idle1 8 (grid1.coords t) = decide (t.val < 4) :=
  (by decide +kernel : ∀ t : Fin grid1.N, (!(k1_cond2 (grid1.coords t) == 1#1)) = decide (t.val < 4))
theorem off1_1 : ∀ t : Fin cfg1.N, k1_off1 (grid1.coords t) = ![t.val % 4, 0, 0] :=
  (by decide +kernel : ∀ t : Fin grid1.N, k1_off1 (grid1.coords t) = ![t.val % 4, 0, 0])
theorem off1_2 : ∀ t : Fin cfg1.N, k1_off2 (grid1.coords t) = ![t.val % 4, 0, 0] :=
  (by decide +kernel : ∀ t : Fin grid1.N, k1_off2 (grid1.coords t) = ![t.val % 4, 0, 0])

/-- At the first point of the first phase the running sums start from zero, whatever was held. -/
theorem pay1_first (i : grid1.Coords) (hi : (i 1).val = 0) (h : FVec F S64x8192 .f32) (s s' : Vec F S64x2 .f32) :
    k1_pay1 i h s = k1_pay1 i h s' := by
  unfold k1_pay1
  rw [hi]
  rfl

theorem coord1_1 (t : Fin cfg1.N) : (grid1.coords t 1).val = t.val % 4 := by
  have h : (grid1.coords t 1).val = t.val / 1 % 4 := Pipeline.Grid.coords_val t 1 (by decide) rfl
  rw [h, Nat.div_one]

variable (W : Dev nD → Valuation τ sig (Elt F))

/-! ## What the second call reads and leaves, point by point -/

/-- The block of window `w` at point `t`, read from the contents found at the call's start. -/
def iblk1 (c : Dev nD) (w : Fin cfg1.W) (t : Fin cfg1.N) :=
  ((cfg1.win w).blk t).view.read (Elt F) (W c (Proc.devRef .tc (Pipeline.arrRef spec1 w)))

/-- The second layer of the batch at point `t`. -/
def h2At (c : Dev nD) (t : Fin cfg1.N) : FVec F S64x8192 .f32 :=
  h2a (iblk1 W c 0 t) (iblk1 W c 1 t) (iblk1 W c 2 t) (iblk1 W c 3 t) (iblk1 W c 4 t) (iblk1 W c 5 t)

/-- The same as a slab. -/
def h2sAt (c : Dev nD) (t : Fin cfg1.N) : FVec F S1x64x8192 .f32 :=
  h2s (iblk1 W c 0 t) (iblk1 W c 1 t) (iblk1 W c 2 t) (iblk1 W c 3 t) (iblk1 W c 4 t) (iblk1 W c 5 t)

/-- The running sums of the second layer after the point `n` of the first phase. -/
def st2At (c : Dev nD) : (n : ℕ) → n < cfg1.N → FVec F S64x2 .f32
  | 0, h => k1_pay1 (grid1.coords ⟨0, h⟩) (h2At W c ⟨0, h⟩) k0_pay3
  | n + 1, h => k1_pay1 (grid1.coords ⟨n + 1, h⟩) (h2At W c ⟨n + 1, h⟩) (st2At c n (Nat.lt_of_succ_lt h))

theorem st2At_zero (c : Dev nD) (t : Fin cfg1.N) (h : t.val = 0) (s : Vec F S64x2 .f32) :
    k1_pay1 (grid1.coords t) (h2At W c t) s = st2At W c t.val t.isLt := by
  obtain ⟨n, hn⟩ := t
  cases n with
  | zero => exact pay1_first _ ((coord1_1 _).trans rfl) _ _ _
  | succ n => exact absurd h (Nat.succ_ne_zero n)

theorem st2At_succ (c : Dev nD) (t : Fin cfg1.N) (h : ¬t.val = 0) :
    st2At W c t.val t.isLt = k1_pay1 (grid1.coords t) (h2At W c t)
      (st2At W c (t.val - 1) (Nat.lt_of_le_of_lt (Nat.sub_le _ _) t.isLt)) := by
  obtain ⟨n, hn⟩ := t
  cases n with
  | zero => exact absurd rfl h
  | succ n => rfl

theorem st2At_congr (c : Dev nD) {n n' : ℕ} (e : n = n') (h : n < cfg1.N) (h' : n' < cfg1.N) : st2At W c n h = st2At W c n' h' := by
  subst e
  rfl

/-- The point `n` of the second call. -/
abbrev pt1 (n : ℕ) (h : n < 8) : Fin cfg1.N := ⟨n, lt_of_lt_of_eq h N_1.symm⟩

theorem slab_inb (b : ℕ) (hb : b < 4) : ∀ a : Fin 3, (![b, 0, 0] : Fin 3 → ℕ) a + S1x64x8192.size a ≤ S4x64x8192.size a := by
  intro a
  fin_cases a
  · show b + 1 ≤ 4
    omega
  · show 0 + 64 ≤ 64
    omega
  · show 0 + 8192 ≤ 8192
    omega

/-- The slab `b` of the scratch buffer's contents. -/
def slab (X : Vec F S4x64x8192 .f32) (b : ℕ) (hb : b < 4) : Vec F S1x64x8192 .f32 :=
  VecWindow.window X ![b, 0, 0] S1x64x8192.size (slab_inb b hb)

/-- Before the point `t` the slabs of the batches passed hold their second layer. -/
def slabsOk (c : Dev nD) (t : ℕ) (X : Vec F S4x64x8192 .f32) : Prop :=
  ∀ (b : ℕ) (hb : b < 4), b < t → slab X b hb = h2sAt W c (pt1 b (by omega))

/-- One more slab written. -/
theorem slabsOk_step (c : Dev nD) (t : Fin cfg1.N) (ht : t.val < 4) (X : Vec F S4x64x8192 .f32) (h : slabsOk W c t.val X) :
    slabsOk W c (t.val + 1) (VecWindow.put X (k1_off1 (grid1.coords t)) S1x64x8192.size (h2sAt W c t)) := by
  rw [off1_1 t, Nat.mod_eq_of_lt ht]
  intro b hb hbt
  by_cases e : b = t.val
  · subst e
    exact VecWindow.window_put_same X _ _ (slab_inb _ ht) _
  · refine (VecWindow.window_put_of_disjoint X ![t.val, 0, 0] S1x64x8192.size ![b, 0, 0] S1x64x8192.size (slab_inb b hb) _ 0 ?_).trans (h b hb (by omega))
    show b + 1 ≤ t.val ∨ t.val + 1 ≤ b
    omega

/-- Nothing more is written from the point four on. -/
theorem slabsOk_more (c : Dev nD) (t : ℕ) (ht : 4 ≤ t) (X : Vec F S4x64x8192 .f32) (h : slabsOk W c t X) : slabsOk W c (t + 1) X :=
  fun b hb _ => h b hb (by omega)

theorem ld_slab (X : Vec F S4x64x8192 .f32) {off : Fin 3 → ℕ} (b : ℕ) (hb : b < 4) (e : off = ![b, 0, 0])
    (inb : ∀ a : Fin 3, off a + S1x64x8192.size a ≤ S4x64x8192.size a) :
    (View.ld X (Rect.unit (s := S4x64x8192) off S1x64x8192.size inb) : Vec F S1x64x8192 .f32) = slab X b hb := by
  subst e
  rfl

/-- The last running sums. -/
def st2L (c : Dev nD) : FVec F S64x2 .f32 := st2At W c 3 (lt_of_lt_of_eq (by decide) N_1.symm)

/-- The running sums held before the point `t`. -/
def sumsOk (c : Dev nD) (t : ℕ) (s : Vec F S64x2 .f32) : Prop :=
  ∀ (h0 : 0 < t) (h : min (t - 1) 3 < cfg1.N), s = st2At W c (min (t - 1) 3) h

theorem sumsOk_step (c : Dev nD) (t : Fin cfg1.N) (ht : t.val < 4) (s : Vec F S64x2 .f32) (h : sumsOk W c t.val s) :
    sumsOk W c (t.val + 1) (k1_pay1 (grid1.coords t) (h2At W c t) s) := by
  intro _ hh
  have hN := t.isLt
  have e : min (t.val + 1 - 1) 3 = t.val := by omega
  rw [st2At_congr W c e hh t.isLt]
  by_cases h0 : t.val = 0
  · exact st2At_zero W c t h0 s
  · have e' : min (t.val - 1) 3 = t.val - 1 := by omega
    have := h (Nat.pos_of_ne_zero h0) (by omega)
    rw [st2At_succ W c t h0, this]
    exact congrArg _ (st2At_congr W c e' _ _)

theorem sumsOk_more (c : Dev nD) (t : ℕ) (ht : 4 ≤ t) (s : Vec F S64x2 .f32) (h : sumsOk W c t s) : sumsOk W c (t + 1) s ∧ s = st2L W c := by
  have hN : 3 < cfg1.N := lt_of_lt_of_eq (by decide) N_1.symm
  have e : min (t - 1) 3 = 3 := by omega
  have := (h (by omega) (by rw [e]; exact hN)).trans (st2At_congr W c e _ hN)
  refine ⟨fun _ hh => ?_, this⟩
  have e' : min (t + 1 - 1) 3 = 3 := by omega
  exact this.trans (st2At_congr W c e' _ _).symm

/-- The scratch buffers of the second call. -/
abbrev sc1 : Memref sig .tc .vmem S4x64x8192 .f32 := Memref.whole cc1_scratch0
abbrev sc2 : Memref sig .tc .vmem S64x2 .f32 := Memref.whole cc1_scratch1

/-- The first call's staging and scratch buffers, at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f))

/-- The invariant of the second call. -/
def Phi1 (c : Dev nD) (t : ℕ) : sProp 𝕄 :=
  iprop((∃ X, ⌜slabsOk W c t X⌝ ∗ owns (c : Thread nD τ) sc1 fullShare X)
    ∗ (∃ s, ⌜sumsOk W c t s⌝ ∗ owns (c : Thread nD τ) sc2 fullShare s)
    ∗ rest1 c ∗ (∃ r, prngReg c r))

/-- The result's block at a point of the second phase. -/
def out8At (c : Dev nD) (t : Fin cfg1.N) : FVec F S1x64x8192 .f32 :=
  outb (st2L W c) (iblk1 W c 6 t) (iblk1 W c 7 t) (h2sAt W c (pt1 (t.val % 4) (by omega)))

/-- The proof data of the second call. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => iblk1 W c 7 t
    | ⟨8, _⟩ => out8At W c t
  Φ t := Phi1 W c t.val
  q _ := fullShare
  owed _ := 0

theorem A1_eq (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = iblk1 W c 7 t := by dsimp only [dat1]
theorem after1_8 (c : Dev nD) (t : Fin cfg1.N) : (dat1 W c).after 8 t = out8At W c t := by dsimp only [dat1]

theorem before1_0 (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = iblk1 W c 1 t :=
  ((dat1 W c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 W c).before 2 t d = iblk1 W c 2 t :=
  ((dat1 W c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W c 3 t :=
  ((dat1 W c).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 W c).before 4 t d = iblk1 W c 4 t :=
  ((dat1 W c).before_in_eq_fetched 4 rfl (fun _ => rfl) (fun _ _ _ => rfl)
    (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 W c).before 5 t d = iblk1 W c 5 t :=
  ((dat1 W c).before_in_eq_fetched 5 rfl (fun _ => rfl) (fun _ _ _ => rfl)
    (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 W c).before 6 t d = iblk1 W c 6 t :=
  ((dat1 W c).before_in_eq_fetched 6 rfl (fun _ => rfl) (fun _ _ _ => rfl)
    (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 W c).before 7 t d = iblk1 W c 7 t :=
  ((dat1 W c).before_in_eq_fetched 7 rfl (fun _ => rfl) (fun _ _ _ => rfl)
    (fun t => by rw [after1_7]; unfold Dat.blockOf iblk1; rw [A1_eq]; try rfl) t d).trans
    (by unfold Dat.fetched Dat.blockOf iblk1; rw [A1_eq]; try rfl)
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)

/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d))
    ∗ (∃ d, owns (c : Thread nD τ) (ms1_5 t) fullShare ((dat1 W c).before 5 t d))
    ∗ (∃ d, owns (c : Thread nD τ) (ms1_6 t) fullShare ((dat1 W c).before 6 t d))
    ∗ (∃ d, owns (c : Thread nD τ) (ms1_7 t) fullShare ((dat1 W c).before 7 t d))
    ∗ (∃ d, owns (c : Thread nD τ) (ms1_8 t) fullShare ((dat1 W c).before 8 t d)))

/-- What it returns. -/
def bodyPost1 (c : Dev nD) (t : Fin cfg1.N) : sProp 𝕄 :=
  iprop((dat1 W c).Φ t.succ ∗ (dat1 W c).owesAt () t.succ
    ∗ owns (c : Thread nD τ) (ms1_0 t) fullShare ((dat1 W c).after 0 t)
    ∗ owns (c : Thread nD τ) (ms1_1 t) fullShare ((dat1 W c).after 1 t)
    ∗ owns (c : Thread nD τ) (ms1_2 t) fullShare ((dat1 W c).after 2 t)
    ∗ owns (c : Thread nD τ) (ms1_3 t) fullShare ((dat1 W c).after 3 t)
    ∗ owns (c : Thread nD τ) (ms1_4 t) fullShare ((dat1 W c).after 4 t)
    ∗ owns (c : Thread nD τ) (ms1_5 t) fullShare ((dat1 W c).after 5 t)
    ∗ owns (c : Thread nD τ) (ms1_6 t) fullShare ((dat1 W c).after 6 t)
    ∗ owns (c : Thread nD τ) (ms1_7 t) fullShare ((dat1 W c).after 7 t)
    ∗ (match cfg1.idle 8 (cfg1.grid.coords t) with
      | true =>
        match (cfg1.win 8).flush t with
        | false => iprop(∃ d, owns (c : Thread nD τ) (ms1_8 t) fullShare ((dat1 W c).before 8 t d))
        | true => owns (c : Thread nD τ) (ms1_8 t) fullShare ((dat1 W c).after 8 t)
      | false => owns (c : Thread nD τ) (ms1_8 t) fullShare ((dat1 W c).after 8 t)))

set_option maxHeartbeats 2400000 in
/-- The body at any point of the second call. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6, before1_7]
  rw [show (dat1 W c).Φ t.succ = Phi1 W c (t.val + 1) from rfl, show (dat1 W c).Φ t.castSucc = Phi1 W c t.val from rfl,
    show (dat1 W c).owesAt () t.succ = (dat1 W c).owesAt () t.castSucc from rfl,
    after1_0, after1_1, after1_2, after1_3, after1_4, after1_5, after1_6, after1_7, after1_8, idle1_8, flush1_8]
  unfold Phi1
  have hN : t.val < 8 := lt_of_lt_of_eq t.isLt N_1
  by_cases h0 : t.val < 4
  · rw [decide_eq_true h0, decide_eq_false (by omega : ¬4 ≤ t.val)]
    iintro ⟨⟨⟨%X, %hX, HS⟩, ⟨%s, %hs, HT⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_A c (grid1.coords t) _ (hs1_0 t) _ (hs1_1 t) _ (hs1_2 t) _ (hs1_3 t) _ (hs1_4 t) _ (hs1_5 t) _ (hs1_6 t) _ (hs1_7 t) _ (hs1_8 t) _ (Memref.isWhole_whole _) _ (Memref.isWhole_whole _) ((hcond1_1 t).mpr h0) (fun h => by have := (hcond1_2 t).mp h; omega) (iblk1 W c 0 t) (iblk1 W c 1 t) (iblk1 W c 2 t) (iblk1 W c 3 t) (iblk1 W c 4 t) (iblk1 W c 5 t) (iblk1 W c 6 t) (iblk1 W c 7 t) _ X s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HT]; · iexact HT
    iintro ⟨H0, H1, H2, H3, H4, H5, H6, H7, H8, HS, HT⟩
    isplitl [HS HT Hr Hg]
    · isplitl [HS]
      · iexists _
        isplitr; swap; · iexact HS
        ipureintro
        exact slabsOk_step W c t h0 X hX
      isplitl [HT]
      · iexists _
        isplitr; swap; · iexact HT
        ipureintro
        exact sumsOk_step W c t h0 s hs
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [decide_eq_false h0]
    iintro ⟨⟨⟨%X, %hX, HS⟩, ⟨%s, %hs, HT⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_B c (grid1.coords t) _ (hs1_0 t) _ (hs1_1 t) _ (hs1_2 t) _ (hs1_3 t) _ (hs1_4 t) _ (hs1_5 t) _ (hs1_6 t) _ (hs1_7 t) _ (hs1_8 t) _ (Memref.isWhole_whole _) _ (Memref.isWhole_whole _) (fun h => h0 ((hcond1_1 t).mp h)) ((hcond1_2 t).mpr (by omega)) (iblk1 W c 0 t) (iblk1 W c 1 t) (iblk1 W c 2 t) (iblk1 W c 3 t) (iblk1 W c 4 t) (iblk1 W c 5 t) (iblk1 W c 6 t) (iblk1 W c 7 t) _ X s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HT]; · iexact HT
    iintro ⟨H0, H1, H2, H3, H4, H5, H6, H7, H8, HS, HT⟩
    isplitl [HS HT Hr Hg]
    · isplitl [HS]
      · iexists _
        isplitr; swap; · iexact HS
        ipureintro
        exact slabsOk_more W c _ (by omega) X hX
      isplitl [HT]
      · iexists _
        isplitr; swap; · iexact HT
        ipureintro
        exact (sumsOk_more W c _ (by omega) s hs).1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    have e : outb s (iblk1 W c 6 t) (iblk1 W c 7 t) (View.ld X (Rect.unit (s := S4x64x8192) (k1_off2 (grid1.coords t)) S1x64x8192.size (k1_off2_inb (grid1.coords t) ((hcond1_2 t).mpr (by omega)))))
        = out8At W c t := by
      rw [ld_slab X (t.val % 4) (by omega) (off1_2 t), hX _ (by omega) (by omega), (sumsOk_more W c _ (by omega) s hs).2]
      rfl
    rw [e]
    iexact H8

/-- The body table's row is the body at the point's slots. -/
theorem defs₀_row1 (t : Fin cfg1.N) :
    defs₀ (F := F) .tc cfg1.body (cfg1.bodyArgs t (cfg1.slots t)) = bodyAt1 t := by
  unfold defs₀; rw [Defs.onTc_tc]

/-- The obligation of the second call's body, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.KernelIdeal.Hand

end
-- ==== Proof.Ideal.Run.lean ====
module

public import proofs.«01_k».proof.Proof.Ideal.Dat1
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The scoped buffers at the calls' ends -/

variable (W : Dev nD → Valuation τ sig (Elt F))

/-- At the start of the first call its invariant is the scoped buffers at any contents. -/
theorem enter0 (c : Dev nD) : iprop(Pipeline.scopedRest spec0 c ∗ ∃ r, prngReg c r) ⊢ ((dat0 W c).Φ 0 : sProp 𝕄) := by
  show _ ⊢ Phi0 W c 0
  rw [scopedRest0_eq]
  unfold Phi0 rest0
  iintro ⟨⟨⟨%f, HS⟩, Hr⟩, Hg⟩
  isplitl [HS]
  · iexists f
    isplitr
    · ipureintro
      exact fun h => absurd h (lt_irrefl 0)
    · rw [owns_whole]
      iexact HS
  isplitl [Hr]; · iexact Hr
  iexact Hg

/-- At the end of the first call the scoped buffers come back. -/
theorem leave0 (c : Dev nD) : ((dat0 W c).Φ (Fin.last cfg0.N) : sProp 𝕄) ⊢ iprop(Pipeline.scopedRest spec0 c ∗ ∃ r, prngReg c r) := by
  show Phi0 W c _ ⊢ _
  rw [scopedRest0_eq]
  unfold Phi0 rest0
  iintro ⟨⟨%d, -, HS⟩, Hr, Hg⟩
  isplitr [Hg]
  · isplitl [HS]
    · iexists d
      rw [owns_whole]
      exact .rfl
    · iexact Hr
  · iexact Hg

/-- At the start of the second call its invariant is the scoped buffers at any contents. -/
theorem enter1 (c : Dev nD) : iprop(Pipeline.scopedRest spec1 c ∗ ∃ r, prngReg c r) ⊢ ((dat1 W c).Φ 0 : sProp 𝕄) := by
  show _ ⊢ Phi1 W c 0
  rw [scopedRest1_eq]
  unfold Phi1 rest1
  iintro ⟨⟨B0, B1, B2, B3, B4, B5, B6, B7, B8, B9, B10, B11, B12, B13, ⟨%f, HS⟩, ⟨%g, HT⟩⟩, Hg⟩
  isplitl [HS]
  · iexists f
    isplitr
    · ipureintro
      exact fun b hb h => absurd h (Nat.not_lt_zero b)
    · rw [owns_whole]
      iexact HS
  isplitl [HT]
  · iexists g
    isplitr
    · ipureintro
      exact fun h => absurd h (lt_irrefl 0)
    · rw [owns_whole]
      iexact HT
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  · iexact Hg

/-- At the end of the second call the scoped buffers come back. -/
theorem leave1 (c : Dev nD) : ((dat1 W c).Φ (Fin.last cfg1.N) : sProp 𝕄) ⊢ iprop(Pipeline.scopedRest spec1 c ∗ ∃ r, prngReg c r) := by
  show Phi1 W c _ ⊢ _
  rw [scopedRest1_eq]
  unfold Phi1 rest1
  iintro ⟨⟨%X, -, HS⟩, ⟨%s, -, HT⟩, ⟨B0, B1, B2, B3, B4, B5, B6, B7, B8, B9, B10, B11, B12, B13⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [HS]
    · iexists X
      rw [owns_whole]
      exact .rfl
    · iexists s
      rw [owns_whole]
      exact .rfl
  · iexact Hg

/-! ## What a call leaves in the buffers it does not write -/

/-- A buffer of device memory that is no output's array of a call stays what it was. -/
theorem after_other {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (b : DevRef τ sig) (hb : ∀ w, (cfg.win w).isOut = true → b ≠ Proc.devRef .tc (Pipeline.arrRef cfg.spec w)) :
    Pipeline.afterRegion dat V b = V b := by
  by_cases h : ∃ w, b = Proc.devRef .tc (Pipeline.arrRef cfg.spec w)
  · obtain ⟨w, rfl⟩ := h
    refine Pipeline.afterRegion_keeps dat V hinj hA _ fun w' e => ?_
    have hw : w' = w := hinj e
    subst hw
    exact Bool.eq_false_iff.mpr fun ho => hb w' ho rfl
  · unfold Pipeline.afterRegion
    rw [dif_neg h]

/-- The first call writes its two results and nothing else. -/
theorem after0_update (c : Dev nD) : Pipeline.afterRegion (dat0 W c) (W c)
    = Function.update (Function.update (W c) main_v2_0 ((dat0 W c).arrAt 6 cfg0.N)) main_v2_1 ((dat0 W c).arrAt 7 cfg0.N) := by
  funext b
  by_cases h7 : b = Proc.devRef .tc main_v2_1
  · subst h7
    exact (Pipeline.afterRegion_arr (dat0 W c) (W c) winFacts0.arr_inj 7).trans (Function.update_self (β := fun b : DevRef τ sig => b.ty.Contents (Elt F)) _ _ _).symm
  rw [Function.update_of_ne h7]
  by_cases h6 : b = Proc.devRef .tc main_v2_0
  · subst h6
    exact (Pipeline.afterRegion_arr (dat0 W c) (W c) winFacts0.arr_inj 6).trans (Function.update_self (β := fun b : DevRef τ sig => b.ty.Contents (Elt F)) _ _ _).symm
  rw [Function.update_of_ne h6]
  refine after_other (dat0 W c) (W c) winFacts0.arr_inj (A0_eq W c) b fun w hw => ?_
  match w, hw with
  | ⟨0, _⟩, hw => exact absurd (show (false : Bool) = true from hw) Bool.false_ne_true
  | ⟨1, _⟩, hw => exact absurd (show (false : Bool) = true from hw) Bool.false_ne_true
  | ⟨2, _⟩, hw => exact absurd (show (false : Bool) = true from hw) Bool.false_ne_true
  | ⟨3, _⟩, hw => exact absurd (show (false : Bool) = true from hw) Bool.false_ne_true
  | ⟨4, _⟩, hw => exact absurd (show (false : Bool) = true from hw) Bool.false_ne_true
  | ⟨5, _⟩, hw => exact absurd (show (false : Bool) = true from hw) Bool.false_ne_true
  | ⟨6, _⟩, _ => exact h6
  | ⟨7, _⟩, _ => exact h7

/-- The second call writes its result and nothing else. -/
theorem after1_update (c : Dev nD) : Pipeline.afterRegion (dat1 W c) (W c)
    = Function.update (W c) main_v8 ((dat1 W c).arrAt 8 cfg1.N) := by
  funext b
  by_cases h8 : b = Proc.devRef .tc main_v8
  · subst h8
    exact (Pipeline.afterRegion_arr (dat1 W c) (W c) winFacts1.arr_inj 8).trans (Function.update_self (β := fun b : DevRef τ sig => b.ty.Contents (Elt F)) _ _ _).symm
  rw [Function.update_of_ne h8]
  refine after_other (dat1 W c) (W c) winFacts1.arr_inj (A1_eq W c) b fun w hw => ?_
  match w, hw with
  | ⟨0, _⟩, hw => exact absurd (show (false : Bool) = true from hw) Bool.false_ne_true
  | ⟨1, _⟩, hw => exact absurd (show (false : Bool) = true from hw) Bool.false_ne_true
  | ⟨2, _⟩, hw => exact absurd (show (false : Bool) = true from hw) Bool.false_ne_true
  | ⟨3, _⟩, hw => exact absurd (show (false : Bool) = true from hw) Bool.false_ne_true
  | ⟨4, _⟩, hw => exact absurd (show (false : Bool) = true from hw) Bool.false_ne_true
  | ⟨5, _⟩, hw => exact absurd (show (false : Bool) = true from hw) Bool.false_ne_true
  | ⟨6, _⟩, hw => exact absurd (show (false : Bool) = true from hw) Bool.false_ne_true
  | ⟨7, _⟩, hw => exact absurd (show (false : Bool) = true from hw) Bool.false_ne_true
  | ⟨8, _⟩, _ => exact h8

/-! ## The whole run -/

variable (m : (ℓ : Loc nD τ sig) → Buf (Elt F) ℓ)

/-- What the first call leaves, as the run's record of the calls' results. -/
def outsA : Outs (F := F) := fun _ r c => Pipeline.afterRegion (dat0 (V1 m) c) (V1 m c) (Proc.devRef .tc r)

/-- The buffers found by the second call. -/
def W3 (c : Dev nD) : Valuation τ sig (Elt F) := V3 m (outsA m) c

/-- What the two calls leave. -/
def outs : Outs (F := F) := fun n r c => match n with
  | 4 => Pipeline.afterRegion (dat1 (W3 m) c) (W3 m c) (Proc.devRef .tc r)
  | _ => outsA m n r c

theorem V2_after (c : Dev nD) : V2 m (outs m) c = Pipeline.afterRegion (dat0 (V1 m) c) (V1 m c) := by
  rw [after0_update]
  have e7 : outs m 2 main_v2_1 c = (dat0 (V1 m) c).arrAt 7 cfg0.N :=
    Pipeline.afterRegion_arr (dat0 (V1 m) c) (V1 m c) winFacts0.arr_inj 7
  have e6 : outs m 2 main_v2_0 c = (dat0 (V1 m) c).arrAt 6 cfg0.N :=
    Pipeline.afterRegion_arr (dat0 (V1 m) c) (V1 m c) winFacts0.arr_inj 6
  show Function.update (Function.update (V1 m c) main_v2_0 (outs m 2 main_v2_0 c)) main_v2_1 (outs m 2 main_v2_1 c) = _
  rw [e6, e7]

theorem V3_W3 (c : Dev nD) : V3 m (outs m) c = W3 m c := rfl

theorem V4_after (c : Dev nD) : V4 m (outs m) c = Pipeline.afterRegion (dat1 (W3 m) c) (W3 m c) := by
  rw [after1_update]
  have e8 : outs m 4 main_v8 c = (dat1 (W3 m) c).arrAt 8 cfg1.N :=
    Pipeline.afterRegion_arr (dat1 (W3 m) c) (W3 m c) winFacts1.arr_inj 8
  show Function.update (V3 m (outs m) c) main_v8 (outs m 4 main_v8 c) = _
  rw [e8, V3_W3]

/-- The result's buffer at the end. -/
theorem V4_result (c : Dev nD) : V4 m (outs m) c (Proc.devRef .tc main_v8) = (dat1 (W3 m) c).arrAt 8 cfg1.N := by
  rw [V4_after]
  exact Pipeline.afterRegion_arr (dat1 (W3 m) c) (W3 m c) winFacts1.arr_inj 8

/-- The proof data of both calls. -/
def pdats : (p : Fin 2) → (c : Dev nD) → Dat τ (Elt F) Unit ℕ (UR sig nD τ) ℕ (cfgs p) c := fun p => match p with
  | ⟨0, _⟩ => dat0 (V1 m)
  | ⟨1, _⟩ => dat1 (W3 m)

/-- Every cell of the cores has one index, at level zero. -/
def Lc : GSem nD τ sig → Finset Unit := fun g => if g.1.2 = .tc then {()} else ∅
def lvc : GSem nD τ sig → Unit → ℕ := fun _ _ => 0

/-- What rides beside the buffers between the items. -/
def Ec (c : Dev nD) : sProp 𝕄 :=
  iprop((∃ Wd, owes (c : Thread nD τ) (0 : CellTallies nD τ sig Unit) Wd) ∗ (∃ r, prngReg c r) ∗ emp)

theorem cut (p : Fin 2) : Pipeline.LevelCut (pcfgs (F := F)) adm () Lc lvc p (fun _ : Dev nD => (0 : CellTallies nD τ sig Unit)) fun _ => 0 :=
  ⟨fun c w s => by show () ∈ (if _ then _ else _ : Finset Unit); rw [if_pos rfl]; exact Finset.mem_singleton_self _,
    fun _ _ _ => le_refl _, fun c g i h => absurd h (lt_irrefl 0)⟩

/-- The first call's record. -/
def reg0 : Pipeline.RegionSeg (pcfgs (F := F)) adm (pdats m) () defs₀ Variants.none Lc lvc 0 :=
  Pipeline.RegionSeg.ofHeldIn (pcfgs (F := F)) adm (pdats m) () defs₀ Variants.none Lc lvc 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl)
    (fun c w => (dat0 (V1 m) c).share_full (fun _ => rfl) w) (fun c => enter0 (V1 m) c) (fun c => leave0 (V1 m) c) (fun _ => 0) (cut 0)
    (fun _ => iprop(emp)) (V1 m) (fun _ _ => rfl)

/-- The second call's record. -/
def reg1 : Pipeline.RegionSeg (pcfgs (F := F)) adm (pdats m) () defs₀ Variants.none Lc lvc 1 :=
  Pipeline.RegionSeg.ofHeldIn (pcfgs (F := F)) adm (pdats m) () defs₀ Variants.none Lc lvc 1 (fun _ => 0) (Pipeline.ucRefs τ sig)
    (fun c => iprop(∃ r, prngReg c r)) (fun c => iprop(∃ r, prngReg c r)) launch1.toP rfl
    (fun c => (body_obligation1 (W3 m) c).loose) (fun _ _ => rfl) (fun _ => rfl)
    (fun c w => (dat1 (W3 m) c).share_full (fun _ => rfl) w) (fun c => enter1 (W3 m) c) (fun c => leave1 (W3 m) c) (fun _ => 0) (cut 1)
    (fun _ => iprop(emp)) (W3 m) (fun _ _ => rfl)

theorem arrs0 : Pipeline.arrRefs (pcfgs (F := F) 0).spec ⊆ Pipeline.ucRefs τ sig := Pipeline.arrRefs_sub_ucRefs spec0 winFacts0.arr_unscoped
theorem arrs1 : Pipeline.arrRefs (pcfgs (F := F) 1).spec ⊆ Pipeline.ucRefs τ sig := Pipeline.arrRefs_sub_ucRefs spec1 winFacts1.arr_unscoped

theorem pre0 (c : Dev nD) : iprop(StableHlo.held (c : Thread nD τ) (Pipeline.ucRefs τ sig) (V1 m c) ∗ Ec c) ⊢ ((reg0 m).pre c : sProp 𝕄) := by
  unfold reg0 Ec
  exact Pipeline.RegionSeg.ofHeldIn_pre (pcs := pcfgs (F := F)) (a := adm) (pdats := pdats m) (p := (0 : Fin 2)) (ι := ()) (defs₀ := defs₀) (𝒱₀ := Variants.none) (L := Lc) (lv := lvc) (D := fun _ => 0)
    (X := fun c => iprop(∃ r, prngReg c r)) (Y := fun c => iprop(∃ r, prngReg c r)) (R := fun _ => iprop(emp)) (W := V1 m) (arrs0 (F := F)) c

theorem post0 (c : Dev nD) : ((reg0 m).post c : sProp 𝕄) ⊢ iprop(StableHlo.held (c : Thread nD τ) (Pipeline.ucRefs τ sig) (V2 m (outs m) c) ∗ Ec c) := by
  have e : V2 m (outs m) c = Pipeline.afterRegion (pdats m 0 c) (V1 m c) := V2_after m c
  rw [e]
  unfold reg0 Ec
  exact Pipeline.RegionSeg.ofHeldIn_post (pcs := pcfgs (F := F)) (a := adm) (pdats := pdats m) (p := (0 : Fin 2)) (arrs0 (F := F)) c

theorem pre1 (c : Dev nD) : iprop(StableHlo.held (c : Thread nD τ) (Pipeline.ucRefs τ sig) (V3 m (outs m) c) ∗ Ec c) ⊢ ((reg1 m).pre c : sProp 𝕄) := by
  rw [V3_W3]
  unfold reg1 Ec
  exact Pipeline.RegionSeg.ofHeldIn_pre (pcs := pcfgs (F := F)) (a := adm) (pdats := pdats m) (p := (1 : Fin 2)) (ι := ()) (defs₀ := defs₀) (𝒱₀ := Variants.none) (L := Lc) (lv := lvc) (D := fun _ => 0)
    (X := fun c => iprop(∃ r, prngReg c r)) (Y := fun c => iprop(∃ r, prngReg c r)) (R := fun _ => iprop(emp)) (W := W3 m) (arrs1 (F := F)) c

theorem post1 (c : Dev nD) : ((reg1 m).post c : sProp 𝕄) ⊢ iprop(StableHlo.held (c : Thread nD τ) (Pipeline.ucRefs τ sig) (V4 m (outs m) c) ∗ Ec c) := by
  have e : V4 m (outs m) c = Pipeline.afterRegion (pdats m 1 c) (W3 m c) := V4_after m c
  rw [e]
  unfold reg1 Ec
  exact Pipeline.RegionSeg.ofHeldIn_post (pcs := pcfgs (F := F)) (a := adm) (pdats := pdats m) (p := (1 : Fin 2)) (arrs1 (F := F)) c

/-- What the run leaves: every unscoped buffer of every device at the last valuation. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = V4 m (outs m) c (Proc.devRef .tc b)

/-- What one core starts with. -/
theorem launch_core (ρ : Dev nD → PrngReg) (c : Dev nD) :
    iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
      ⊢ (iprop(StableHlo.held (c : Thread nD τ) (Pipeline.ucRefs τ sig) (V0 m c) ∗ Ec c) : sProp 𝕄) := by
  rw [← Pipeline.unscopedBufs_held (Ix := Unit) (Name := ℕ) (U := UR sig nD τ) (Lvl := ℕ) c (V0 m c)]
  unfold Ec
  iintro ⟨Hb, -, HO, -, Hp, -⟩
  isplitl [Hb]; · iexact Hb
  isplitl [HO]; · iexists _; iexact HO
  isplitl [Hp]; · iexists _; iexact Hp
  iempintro

set_option backward.isDefEq.respectTransparency.types false in
/-- Every run of the program ends, with every unscoped buffer at the last valuation and every semaphore counter at zero. -/
theorem run_main (ρ : Dev nD → PrngReg) :
    θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj emb₁ defs₀ Variants.none Lc lvc m ρ main
    (segs m (outs m) Variants.none Lc lvc (fun _ => Ec) () (pdats m) (reg0 m) (reg1 m))
    (fun c Q => by
      rewrite [main_chain c, Pipeline.Seg.run_eq_chain,
        show (segs m (outs m) Variants.none Lc lvc (fun _ => Ec) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (fun _ => 0) (fun g h => if_neg h) (fun _ => iprop(emp))
    (initOf (Pipeline.cells cfgs cellOf_inj) (Pipeline.launchToks cfgs cellOf_inj))
    (by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ec c))
    (Tₙ := fun c => StableHlo.held (c : Thread nD τ) (Pipeline.ucRefs τ sig) (V4 m (outs m) c))
    (hch := fun c => ⟨.rfl, pre0 m c, post0 m c, pre1 m c, (post1 m c).trans (sep_mono .rfl (by
      unfold Ec
      iintro ⟨HO, -, -⟩
      iexact HO))⟩)
    (hinit := ?_)
    (QY := fun c s => ∀ b : Ref sig .tc, (Proc.devRef .tc b : DevRef τ sig) ∈ Pipeline.ucRefs τ sig →
      s.mem ((c : Thread nD τ).loc b) = V4 m (outs m) c (Proc.devRef .tc b))
    (hfin := fun c s' => ?_) (hQ := fun _ h hz => ⟨h, funext fun g => hz g (.inr (regions_no_unscoped g.2))⟩)
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ (fun c : Dev nD => (iprop(StableHlo.held (c : Thread nD τ) (Pipeline.ucRefs τ sig) (V0 m c) ∗ Ec c) : sProp 𝕄)) : sProp 𝕄) from by
      refine bigSep_mono fun c _ => launch_core m ρ c)
    iexact H
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h _ hb
    · iexact HSI

theorem mem_uc (r : Ref sig .tc) (h : r.isScoped = false) : (Proc.devRef .tc r : DevRef τ sig) ∈ Pipeline.ucRefs τ sig :=
  Finset.mem_filter.mpr ⟨StableHlo.devRef_mem_tcRefs r, Bool.eq_false_iff.mp h⟩

/-- The run leaves every argument as launched. -/
theorem Final.args {s : MemSt nD τ sig (Elt F)} (h : Final m s) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨(h c main_arg0 (mem_uc _ (by decide))).trans (V4_main_arg0 m (outs m) c),
    (h c main_arg1 (mem_uc _ (by decide))).trans (V4_main_arg1 m (outs m) c),
    (h c main_arg2 (mem_uc _ (by decide))).trans (V4_main_arg2 m (outs m) c),
    (h c main_arg3 (mem_uc _ (by decide))).trans (V4_main_arg3 m (outs m) c),
    (h c main_arg4 (mem_uc _ (by decide))).trans (V4_main_arg4 m (outs m) c),
    (h c main_arg5 (mem_uc _ (by decide))).trans (V4_main_arg5 m (outs m) c),
    (h c main_arg6 (mem_uc _ (by decide))).trans (V4_main_arg6 m (outs m) c),
    (h c main_arg7 (mem_uc _ (by decide))).trans (V4_main_arg7 m (outs m) c),
    (h c main_arg8 (mem_uc _ (by decide))).trans (V4_main_arg8 m (outs m) c),
    (h c main_arg9 (mem_uc _ (by decide))).trans (V4_main_arg9 m (outs m) c),
    (h c main_arg10 (mem_uc _ (by decide))).trans (V4_main_arg10 m (outs m) c),
    (h c main_arg11 (mem_uc _ (by decide))).trans (V4_main_arg11 m (outs m) c)⟩

/-- The run leaves the result at the second call's output. -/
theorem Final.result {s : MemSt nD τ sig (Elt F)} (h : Final m s) (c : Dev nD) :
    s.mem ((c.tc : Thread nD τ).loc main_v8) = (dat1 (W3 m) c).arrAt 8 cfg1.N :=
  (h c main_v8 (mem_uc _ (by decide))).trans (V4_result m c)

end Cert.KernelIdeal.Hand

end
-- ==== Proof.Frames.lean ====
module

public import proofs.«01_k».proof.Defs
public import proofs.«01_k».proof.Proof.Ideal.Run
public import proofs.«01_k».proof.Proof.Plain.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

/-- The kernel as printed runs, leaves its arguments and ends with every counter at zero. -/
theorem frame_Kernel : Cert.quiescent_Kernel := fun m g _ =>
  (θ_run _ _ _).mono (fun _ h => ⟨fun c => h.1.args m c, h.2⟩) (Cert.Kernel.Hand.run_main m g)

/-- The idealized kernel runs, leaves its arguments and ends with every counter at zero. -/
theorem frame_KernelIdeal : Cert.quiescent_KernelIdeal := fun m g _ =>
  (θ_run _ _ _).mono (fun _ h => ⟨fun c => h.1.args m c, h.2⟩) (Cert.KernelIdeal.Hand.run_main m g)

/-- The reference runs, leaves its arguments and ends with every counter at zero. -/
theorem frame_ReferenceIdeal : Cert.quiescent_ReferenceIdeal := fun m g _ =>
  (θ_run _ _ _).mono (fun r h => ⟨fun c => (h c).2, sem_eq_zero_of_no_sems (by decide) r.2⟩) (Cert.ReferenceIdeal.Value.run m g)

/-- Giving the named constant back its printed value gives back the kernel's own constant. -/
theorem preserves_kernel : Cert.preserves_Kernel_KernelIdeal := by
  unfold Cert.preserves_Kernel_KernelIdeal
  exact IdealRules.named_const.statement _ _ _ _ _ rfl

end Cert.Proof

end
-- ==== Proof.Math.Spec.lean ====
module

public import Idealize.ShloMosaic.Lib.Pointwise
public import Idealize.ShloMosaic.Lib.IdealHost

@[expose] public section

noncomputable section

/-! What is computed, over the real numbers: the three nearest keys of each query, the interpolated features, and two
    dense layers, each followed by a normalisation by its mean and variance and a clip at zero. -/

namespace Cert.Spec

open Idealize.ShloMosaic
open scoped BigOperators

/-- The arguments as real numbers, by coordinates; the last shift may be infinite. -/
structure Args where
  q : Fin 4 → Fin 3 → Fin 8192 → ℝ
  k : Fin 4 → Fin 3 → Fin 1024 → ℝ
  f1 : Fin 4 → Fin 64 → Fin 8192 → ℝ
  f2 : Fin 4 → Fin 64 → Fin 1024 → ℝ
  W1 : Fin 64 → Fin 128 → ℝ
  b1 : Fin 64 → ℝ
  g1 : Fin 64 → ℝ
  be1 : Fin 64 → ℝ
  W2 : Fin 64 → Fin 64 → ℝ
  b2 : Fin 64 → ℝ
  g2 : Fin 64 → ℝ
  be2 : Fin 64 → EReal

/-- The least divisor of a weight. -/
def epsD : ℝ := 14411519 / 2 ^ 57

/-- What is added to a variance. -/
def epsV : ℝ := 10995116 / 2 ^ 40

theorem epsD_pos : 0 < epsD := by unfold epsD; positivity

theorem epsV_pos : 0 < epsV := by unfold epsV; positivity

theorem ofBits_epsD : Ideal.ofBits .f32 0x2EDBE6FF#32 = (epsD : EReal) := by
  unfold epsD
  simp [Ideal.ofBits, Ideal.ieee, -EReal.coe_mul]; norm_num

theorem ofBits_epsV : Ideal.ofBits .f32 0x3727C5AC#32 = (epsV : EReal) := by
  unfold epsV
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_count : Ideal.ofBits .f32 0x47000000#32 = ((32768 : ℝ) : EReal) := by
  simp [Ideal.ofBits, Ideal.ieee, -EReal.coe_mul]; norm_num

theorem ofBits_inv_count : Ideal.ofBits .f32 0x38000000#32 = ((1 / 32768 : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-! ## Real numbers among the extended ones -/

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem sqrt_coe (x : ℝ) (hx : 0 ≤ x) : Ideal.sqrt (x : EReal) = ((Real.sqrt x : ℝ) : EReal) := by
  show (if x < 0 then ⊥ else ((Real.sqrt x : ℝ) : EReal)) = _
  rw [if_neg (not_lt.mpr hx)]

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The three nearest keys -/

variable (A : Args)

/-- The squared distance of query `n` of batch `b` from key `j`, not below zero. -/
def dist (b : Fin 4) (n : Fin 8192) (j : Fin 1024) : ℝ :=
  max ((∑ x, A.q b x n * A.q b x n) + (∑ x, A.k b x j * A.k b x j) - 2 * ∑ x, A.q b x n * A.k b x j) 0

/-- `p` lists the three nearest positions in order: each strictly nearer than the next, the last than all others. -/
structure Near (d : Fin 1024 → ℝ) (p : Fin 3 → Fin 1024) : Prop where
  h01 : d (p 0) < d (p 1)
  h12 : d (p 1) < d (p 2)
  rest : ∀ j, j ≠ p 0 → j ≠ p 1 → j ≠ p 2 → d (p 2) < d j

/-- A choice of the three nearest keys of every query. -/
abbrev Pick := Fin 4 → Fin 8192 → Fin 3 → Fin 1024

variable (P : Pick)

/-- The weight of the `i`-th nearest key before normalisation. -/
def wt (b : Fin 4) (n : Fin 8192) (i : Fin 3) : ℝ := 1 / max (dist A b n (P b n i)) epsD

/-- The interpolated feature `c` at query `n`. -/
def interp (b : Fin 4) (c : Fin 64) (n : Fin 8192) : ℝ :=
  ∑ i, A.f2 b c (P b n i) * (wt A P b n i / ∑ i', wt A P b n i')

/-- The first layer. -/
def h1 (b : Fin 4) (o : Fin 64) (n : Fin 8192) : ℝ :=
  (∑ c : Fin 64, A.W1 o ⟨c.val, by omega⟩ * interp A P b c n)
    + (∑ c : Fin 64, A.W1 o ⟨64 + c.val, by omega⟩ * A.f1 b c n) + A.b1 o

/-- The mean of a row over batches and queries. -/
def mean (h : Fin 4 → Fin 64 → Fin 8192 → ℝ) (o : Fin 64) : ℝ := (∑ b, ∑ n, h b o n) / 32768

/-- The variance of a row over batches and queries. -/
def var (h : Fin 4 → Fin 64 → Fin 8192 → ℝ) (o : Fin 64) : ℝ :=
  (∑ b, ∑ n, (h b o n - mean h o) * (h b o n - mean h o)) / 32768

/-- The normalised row, scaled. -/
def norm (h : Fin 4 → Fin 64 → Fin 8192 → ℝ) (g : Fin 64 → ℝ) (b : Fin 4) (o : Fin 64) (n : Fin 8192) : ℝ :=
  (h b o n - mean h o) / Real.sqrt (var h o + epsV) * g o

/-- The first layer normalised, shifted and clipped at zero. -/
def y1 (b : Fin 4) (o : Fin 64) (n : Fin 8192) : ℝ := max (norm (h1 A P) A.g1 b o n + A.be1 o) 0

/-- The second layer. -/
def h2 (b : Fin 4) (o : Fin 64) (n : Fin 8192) : ℝ := (∑ c, A.W2 o c * y1 A P b c n) + A.b2 o

/-- The result. -/
def out (b : Fin 4) (o : Fin 64) (n : Fin 8192) : EReal := max ((norm (h2 A P) A.g2 b o n : EReal) + A.be2 o) 0

/-! ## The facts about them -/

theorem var_nonneg (h : Fin 4 → Fin 64 → Fin 8192 → ℝ) (o : Fin 64) : 0 ≤ var h o :=
  div_nonneg (Finset.sum_nonneg fun _ _ => Finset.sum_nonneg fun _ _ => mul_self_nonneg _) (by norm_num)

theorem sqrt_pos (h : Fin 4 → Fin 64 → Fin 8192 → ℝ) (o : Fin 64) : 0 < Real.sqrt (var h o + epsV) :=
  Real.sqrt_pos.mpr (add_pos_of_nonneg_of_pos (var_nonneg h o) epsV_pos)

/-- The variance is the mean of the squares less the square of the mean. -/
theorem var_eq (h : Fin 4 → Fin 64 → Fin 8192 → ℝ) (o : Fin 64) :
    var h o = (∑ b, ∑ n, h b o n * h b o n) / 32768 - mean h o * mean h o := by
  have e : ∀ b n, (h b o n - mean h o) * (h b o n - mean h o)
      = h b o n * h b o n - 2 * mean h o * h b o n + mean h o * mean h o := fun b n => by ring
  have hm : (∑ b, ∑ n, h b o n) = 32768 * mean h o := by unfold mean; ring
  unfold var
  simp only [e, Finset.sum_add_distrib, Finset.sum_sub_distrib, ← Finset.mul_sum, hm, Finset.sum_const, Finset.card_univ,
    Fintype.card_fin, nsmul_eq_mul]
  push_cast
  ring

/-- Scaling and shifting once, by the quotient of the scale, is normalising and scaling. -/
theorem norm_eq (h : Fin 4 → Fin 64 → Fin 8192 → ℝ) (g : Fin 64 → ℝ) (b : Fin 4) (o : Fin 64) (n : Fin 8192) :
    norm h g b o n = h b o n * (g o / Real.sqrt (var h o + epsV)) - mean h o * (g o / Real.sqrt (var h o + epsV)) := by
  unfold norm; ring

theorem wt_pos (b : Fin 4) (n : Fin 8192) (i : Fin 3) : 0 < wt A P b n i :=
  div_pos one_pos (lt_max_of_lt_right epsD_pos)

theorem wt_sum_pos (b : Fin 4) (n : Fin 8192) : 0 < ∑ i, wt A P b n i :=
  Finset.sum_pos (fun i _ => wt_pos A P b n i) Finset.univ_nonempty

end Cert.Spec

end
-- ==== Proof.Math.Near.lean ====
module

public import proofs.«01_k».proof.Proof.Math.Spec
public import Idealize.ShloMosaic.Lib.SortFacts

@[expose] public section

noncomputable section

/-! Three rounds of taking the least and blanking it find the three nearest keys; so does a sort. -/

namespace Cert.Spec

open Idealize.ShloMosaic
open scoped BigOperators

/-- The least of a family, where it is known to be attained. -/
theorem fold_min_eq {f : Fin 1024 → EReal} {m : EReal} (p : Fin 1024) (hp : f p = m) (h : ∀ j, m ≤ f j) :
    Finset.fold min ⊤ f Finset.univ = m := by
  apply le_antisymm
  · rw [← hp]; exact (Finset.fold_min_le _).mpr (Or.inr ⟨p, Finset.mem_univ _, le_rfl⟩)
  · exact (Finset.le_fold_min _).mpr ⟨le_top, fun j _ => h j⟩

variable {d : Fin 1024 → ℝ} {p : Fin 3 → Fin 1024}

theorem Near.ne01 (h : Near d p) : p 0 ≠ p 1 := fun e => absurd h.h01 (by rw [e]; exact lt_irrefl _)
theorem Near.ne12 (h : Near d p) : p 1 ≠ p 2 := fun e => absurd h.h12 (by rw [e]; exact lt_irrefl _)
theorem Near.h02 (h : Near d p) : d (p 0) < d (p 2) := h.h01.trans h.h12
theorem Near.ne02 (h : Near d p) : p 0 ≠ p 2 := fun e => absurd h.h02 (by rw [e]; exact lt_irrefl _)

theorem Near.cases (h : Near d p) (j : Fin 1024) : j = p 0 ∨ j = p 1 ∨ j = p 2 ∨ d (p 2) < d j := by
  by_cases h0 : j = p 0
  · exact Or.inl h0
  by_cases h1 : j = p 1
  · exact Or.inr (Or.inl h1)
  by_cases h2 : j = p 2
  · exact Or.inr (Or.inr (Or.inl h2))
  exact Or.inr (Or.inr (Or.inr (h.rest j h0 h1 h2)))

/-- The distances with the nearest blanked. -/
def blank1 (d : Fin 1024 → ℝ) (p : Fin 3 → Fin 1024) (j : Fin 1024) : EReal :=
  if (d j : EReal) = (d (p 0) : EReal) then ⊤ else (d j : EReal)

/-- The distances with the two nearest blanked. -/
def blank2 (d : Fin 1024 → ℝ) (p : Fin 3 → Fin 1024) (j : Fin 1024) : EReal :=
  if blank1 d p j = (d (p 1) : EReal) then ⊤ else blank1 d p j

theorem Near.min1 (h : Near d p) : Finset.fold min ⊤ (fun j => (d j : EReal)) Finset.univ = (d (p 0) : EReal) := by
  refine fold_min_eq (p 0) rfl fun j => EReal.coe_le_coe_iff.mpr ?_
  have a := h.h01; have b := h.h12
  rcases h.cases j with rfl | rfl | rfl | hj <;> linarith

theorem Near.min2 (h : Near d p) : Finset.fold min ⊤ (blank1 d p) Finset.univ = (d (p 1) : EReal) := by
  have a := h.h01; have b := h.h12
  refine fold_min_eq (p 1) ?_ fun j => ?_
  · unfold blank1
    rw [if_neg (fun e => by have := EReal.coe_eq_coe_iff.mp e; linarith)]
  · unfold blank1
    split
    · exact le_top
    · rename_i hne
      refine EReal.coe_le_coe_iff.mpr ?_
      rcases h.cases j with rfl | rfl | rfl | hj
      · exact absurd rfl hne
      · exact le_rfl
      · linarith
      · linarith

theorem Near.min3 (h : Near d p) : Finset.fold min ⊤ (blank2 d p) Finset.univ = (d (p 2) : EReal) := by
  have a := h.h01; have b := h.h12
  have e2 : blank1 d p (p 2) = (d (p 2) : EReal) := by
    unfold blank1
    rw [if_neg (fun e => by have := EReal.coe_eq_coe_iff.mp e; linarith)]
  refine fold_min_eq (p 2) ?_ fun j => ?_
  · unfold blank2
    rw [e2, if_neg (fun e => by have := EReal.coe_eq_coe_iff.mp e; linarith)]
  · unfold blank2
    split
    · exact le_top
    · rename_i hne
      unfold blank1 at hne ⊢
      split
      · exact le_top
      · rename_i hne0
        rw [if_neg hne0] at hne
        refine EReal.coe_le_coe_iff.mpr ?_
        rcases h.cases j with rfl | rfl | rfl | hj
        · exact absurd rfl hne0
        · exact absurd rfl hne
        · exact le_rfl
        · exact hj.le

/-- A sum over the keys not farther than the third nearest is a sum over the three nearest. -/
theorem Near.sum_le (h : Near d p) (F : Fin 1024 → ℝ) :
    (∑ j, if d j ≤ d (p 2) then F j else 0) = ∑ i, F (p i) := by
  have a := h.h01; have b := h.h12
  have hset : (Finset.univ.filter fun j => d j ≤ d (p 2)) = {p 0, p 1, p 2} := by
    ext j
    simp only [Finset.mem_filter, Finset.mem_univ, true_and, Finset.mem_insert, Finset.mem_singleton]
    constructor
    · intro hj
      rcases h.cases j with e | e | e | hj'
      · exact Or.inl e
      · exact Or.inr (Or.inl e)
      · exact Or.inr (Or.inr e)
      · exact absurd hj (not_le.mpr hj')
    · rintro (rfl | rfl | rfl) <;> linarith
  rw [← Finset.sum_filter, hset, Finset.sum_insert (by simp [h.ne01, h.ne02]), Finset.sum_insert (by simp [h.ne12]),
    Finset.sum_singleton, Fin.sum_univ_three, add_assoc]

/-- A list of distinct positions by increasing distance, the first four strictly apart, begins with the three nearest. -/
theorem near_of_sorted (σ : Fin 1024 → Fin 1024) (hσ : Function.Surjective σ) (hs : ∀ i j, i < j → d (σ i) ≤ d (σ j))
    (h01 : d (σ 0) < d (σ 1)) (h12 : d (σ 1) < d (σ 2)) (h23 : d (σ 2) < d (σ 3)) :
    Near d (fun i => σ ⟨i.val, by omega⟩) := by
  refine ⟨h01, h12, fun j n0 n1 n2 => ?_⟩
  obtain ⟨i, rfl⟩ := hσ j
  have hi : 3 ≤ i.val := by
    by_contra hlt
    have : i.val = 0 ∨ i.val = 1 ∨ i.val = 2 := by omega
    rcases this with e | e | e
    · exact n0 (congrArg σ (Fin.ext e))
    · exact n1 (congrArg σ (Fin.ext e))
    · exact n2 (congrArg σ (Fin.ext e))
  rcases Nat.eq_or_lt_of_le hi with e | e
  · have : i = 3 := Fin.ext e.symm
    rw [this]; exact h23
  · exact lt_of_lt_of_le h23 (hs 3 i (by rw [Fin.lt_def]; exact e))

/-- The positions of a stable sort of a row, the greatest first. -/
def order (x : Fin 1024 → EReal) : Fin 1024 → Fin 1024 :=
  sortedFrom (fun k k' => Ideal.cmp .ogt (x k) (x k') == 1#1)

theorem order_surjective (x : Fin 1024 → EReal) : Function.Surjective (order x) := sortedFrom_surjective _

theorem order_sorted (x : Fin 1024 → EReal) (i j : Fin 1024) (h : i < j) : x (order x j) ≤ x (order x i) := by
  have key : ∀ a b : Fin 1024, (Ideal.cmp .ogt (x a) (x b) == 1#1) = decide (x b < x a) := fun a b => by
    by_cases hlt : x b < x a <;> simp [Ideal.cmp, hlt]
  have hB := sortedFrom_noInversion (fun k k' => Ideal.cmp .ogt (x k) (x k') == 1#1)
    (fun k k' => Ideal.cmp .ogt (x k) (x k') == 1#1)
    (fun a b hab => by rw [key] at hab ⊢; have := of_decide_eq_true hab; simpa using this.le)
    (fun a b hab => hab)
    (fun a b c hab hbc => by
      rw [key] at hab hbc ⊢
      have h1 := of_decide_eq_false hab; have h2 := of_decide_eq_false hbc
      simpa using (not_lt.mp h1).trans (not_lt.mp h2)) i j h
  rw [key] at hB
  exact not_lt.mp (of_decide_eq_false hB)

end Cert.Spec

end
-- ==== Proof.Value.Pay0.lean ====
module

public import proofs.«01_k».proof.Proof.Ideal.Run0A
public import proofs.«01_k».proof.Proof.Gen.KernelIdeal
public import proofs.«01_k».proof.Proof.Math.Near

@[expose] public section

set_option maxRecDepth 16384

noncomputable section

/-! What one point of the first call computes, over the real numbers. -/

namespace Cert.KernelIdeal.Hand

open Cert.KernelIdeal Cert.KernelIdeal.Gen Idealize.ShloMosaic Idealize.ShloMosaic.TcCoe
open Cert.Spec
open scoped BigOperators

attribute [local instance] Cert.KernelIdeal.Gen.facts

variable {A : Args} {P : Pick} {b : Fin 4} {e : Fin 1024 → Fin 8192}
variable {x0 : Vec Ideal S1x3x1024 .f32} {x1 : Vec Ideal S1x1024x3 .f32} {kn : Vec Ideal S1024x1 .f32}

/-- The blocks of one tile hold these queries, keys and key norms. -/
structure Tile (A : Args) (b : Fin 4) (e : Fin 1024 → Fin 8192) (x0 : Vec Ideal S1x3x1024 .f32)
    (x1 : Vec Ideal S1x1024x3 .f32) (kn : Vec Ideal S1024x1 .f32) : Prop where
  q : ∀ c n, x0 (ix3 0 c n) = (A.q b c (e n) : EReal)
  k : ∀ j c, x1 (ix3 0 j c) = (A.k b c j : EReal)
  kn : ∀ j, kn (ix2 j 0) = ((∑ c, A.k b c j * A.k b c j : ℝ) : EReal)

/-- The key norms. -/
theorem pay6_real (hk : ∀ j c, x1 (ix3 0 j c) = (A.k b c j : EReal)) (j : Fin 1024) :
    k0_pay6 x1 (ix2 j 0) = ((∑ c, A.k b c j * A.k b c j : ℝ) : EReal) := by
  pointwise [k0_pay6, k0_pay5]
  simp only [hk, ← EReal.coe_mul, sum_coe]

/-- The distances. -/
theorem pay7_real (h : Tile A b e x0 x1 kn) (j n : Fin 1024) :
    k0_pay7 x0 x1 kn (ix2 j n) = (Spec.dist A b (e n) j : EReal) := by
  pointwise [k0_pay7, k0_pay5]
  simp only [h.q, h.k, h.kn, ofBits_two, ← EReal.coe_mul, sum_coe, ← EReal.coe_add, ← EReal.coe_sub]
  rw [← EReal.coe_zero, max_coe]
  unfold Spec.dist
  simp only [mul_comm (A.k b _ j) (A.q b _ (e n)), add_comm (∑ c, A.k b c j * A.k b c j)]

theorem pay8_real (h : Tile A b e x0 x1 kn) (n : Fin 1024) (hP : Near (Spec.dist A b (e n)) (P b (e n))) :
    k0_pay8 x0 x1 kn (ix2 0 n) = (Spec.dist A b (e n) (P b (e n) 0) : EReal) := by
  pointwise [k0_pay8]
  simp only [pay7_real h, ofBits_top]
  exact hP.min1

theorem far_eq : (Named.named (F := Ideal) (φ := .f32) κ "far" 0x7149F2CA#32 : EReal) = ⊤ := by
  rfl

theorem pay9_real (h : Tile A b e x0 x1 kn) (j n : Fin 1024) (hP : Near (Spec.dist A b (e n)) (P b (e n))) :
    k0_pay9 x0 x1 kn (ix2 j n) = blank1 (Spec.dist A b (e n)) (P b (e n)) j := by
  pointwise [k0_pay9]
  simp only [pay7_real h, pay8_real h n hP, far_eq]
  rfl

theorem pay10_real (h : Tile A b e x0 x1 kn) (n : Fin 1024) (hP : Near (Spec.dist A b (e n)) (P b (e n))) :
    k0_pay10 x0 x1 kn (ix2 0 n) = (Spec.dist A b (e n) (P b (e n) 1) : EReal) := by
  pointwise [k0_pay10]
  simp only [pay9_real h _ n hP, ofBits_top]
  exact hP.min2

theorem pay11_real (h : Tile A b e x0 x1 kn) (n : Fin 1024) (hP : Near (Spec.dist A b (e n)) (P b (e n))) :
    k0_pay11 x0 x1 kn (ix2 0 n) = (Spec.dist A b (e n) (P b (e n) 2) : EReal) := by
  pointwise [k0_pay11]
  simp only [pay9_real h _ n hP, pay10_real h n hP, ofBits_top, far_eq]
  exact hP.min3

/-- A weight, of the reals. -/
theorem wt_coe (d : ℝ) : Ideal.div 1 (max (d : EReal) (Ideal.ofBits .f32 0x2EDBE6FF#32)) = ((1 / max d epsD : ℝ) : EReal) := by
  rw [ofBits_epsD, max_coe, ← EReal.coe_one, div_coe _ _ (ne_of_gt (lt_max_of_lt_right epsD_pos))]

/-- The first layer before its bias. -/
theorem h1a_real {x2 x3 : Vec Ideal S1x64x1024 .f32} {x4 : Vec Ideal S64x128 .f32} (h : Tile A b e x0 x1 kn)
    (h2 : ∀ c n, x2 (ix3 0 c n) = (A.f1 b c (e n) : EReal)) (h3 : ∀ c j, x3 (ix3 0 c j) = (A.f2 b c j : EReal))
    (h4 : ∀ o c, x4 (ix2 o c) = (A.W1 o c : EReal)) (o : Fin 64) (n : Fin 1024)
    (hP : Near (Spec.dist A b (e n)) (P b (e n))) :
    h1a x0 x1 kn x2 x3 x4 (ix2 o n) = ((∑ c : Fin 64, A.W1 o ⟨c.val, by omega⟩ * Spec.interp A P b c (e n))
      + (∑ c : Fin 64, A.W1 o ⟨64 + c.val, by omega⟩ * A.f1 b c (e n)) : ℝ) := by
  pointwise [h1a, k0_pay14, k0_pay12, k0_pay13]
  have hw : ∀ j : Fin 1024, (if k0_pay7 x0 x1 kn (ix2 j n) ≤ k0_pay11 x0 x1 kn (ix2 0 n) then
        Ideal.div 1 (max (k0_pay7 x0 x1 kn (ix2 j n)) (Ideal.ofBits .f32 0x2EDBE6FF#32)) else 0)
      = ((if Spec.dist A b (e n) j ≤ Spec.dist A b (e n) (P b (e n) 2) then 1 / max (Spec.dist A b (e n) j) epsD else 0 : ℝ) : EReal) := by
    intro j
    rw [pay7_real h, pay11_real h n hP, wt_coe, apply_ite ((↑) : ℝ → EReal)]
    simp only [EReal.coe_le_coe_iff, EReal.coe_zero]
  have hr : Ideal.div 1 (Ideal.div 1 (max (k0_pay8 x0 x1 kn (ix2 0 n)) (Ideal.ofBits .f32 0x2EDBE6FF#32))
        + Ideal.div 1 (max (k0_pay10 x0 x1 kn (ix2 0 n)) (Ideal.ofBits .f32 0x2EDBE6FF#32))
        + Ideal.div 1 (max (k0_pay11 x0 x1 kn (ix2 0 n)) (Ideal.ofBits .f32 0x2EDBE6FF#32)))
      = ((1 / ∑ i, wt A P b (e n) i : ℝ) : EReal) := by
    rw [pay8_real h n hP, pay10_real h n hP, pay11_real h n hP, wt_coe, wt_coe, wt_coe, ← EReal.coe_add, ← EReal.coe_add,
      ← EReal.coe_one]
    have hs : (∑ i, wt A P b (e n) i) = 1 / max (Spec.dist A b (e n) (P b (e n) 0)) epsD + 1 / max (Spec.dist A b (e n) (P b (e n) 1)) epsD
        + 1 / max (Spec.dist A b (e n) (P b (e n) 2)) epsD := by rw [Fin.sum_univ_three]; rfl
    rw [← hs, div_coe _ _ (ne_of_gt (wt_sum_pos A P b (e n)))]
  have hi : ∀ c : Fin 64, (∑ j : Fin 1024, x3 (ix3 0 c j) * (if k0_pay7 x0 x1 kn (ix2 j n) ≤ k0_pay11 x0 x1 kn (ix2 0 n) then
        Ideal.div 1 (max (k0_pay7 x0 x1 kn (ix2 j n)) (Ideal.ofBits .f32 0x2EDBE6FF#32)) else 0))
      * ((1 / ∑ i, wt A P b (e n) i : ℝ) : EReal) = (Spec.interp A P b c (e n) : EReal) := by
    intro c
    simp only [hw, h3, ← EReal.coe_mul, sum_coe]
    refine congrArg _ ?_
    have := hP.sum_le (fun j => A.f2 b c j * (1 / max (Spec.dist A b (e n) j) epsD))
    simp only [mul_ite, mul_zero, this, Finset.sum_mul]
    unfold Spec.interp
    refine Finset.sum_congr rfl fun i _ => ?_
    unfold wt
    ring
  rw [hr]
  simp only [hi, h2, h4, ← EReal.coe_mul, sum_coe, ← EReal.coe_add]

/-- The first layer as stored. -/
theorem pay2_real {a : FVec Ideal S64x1024 .f32} {x5 : Vec Ideal S64x1 .f32} {o : Fin 64} {n : Fin 1024} {r : ℝ}
    (ha : a (ix2 o n) = (r : EReal)) (h5 : x5 (ix2 o 0) = (A.b1 o : EReal)) :
    k0_pay2 a (k0_pay15 x5) (ix3 0 o n) = ((r + A.b1 o : ℝ) : EReal) := by
  pointwise [k0_pay2, k0_pay1, k0_pay15]
  rw [ha, h5, ← EReal.coe_add]

/-- The first layer added to the running sums: the sums of its rows, and of their squares. -/
theorem pay4_real {a : FVec Ideal S64x1024 .f32} {x5 : Vec Ideal S64x1 .f32} {o : Fin 64} {r : Fin 1024 → ℝ}
    (ha : ∀ n, a (ix2 o n) = (r n : EReal)) (h5 : x5 (ix2 o 0) = (A.b1 o : EReal)) (s : Vec Ideal S64x2 .f32) :
    k0_pay4 a (k0_pay15 x5) s (ix2 o 0) = s (ix2 o 0) + ((∑ n, (r n + A.b1 o) : ℝ) : EReal)
    ∧ k0_pay4 a (k0_pay15 x5) s (ix2 o 1) = s (ix2 o 1) + ((∑ n, (r n + A.b1 o) * (r n + A.b1 o) : ℝ) : EReal) := by
  constructor
  · pointwise [k0_pay4, k0_pay1, k0_pay15]
    simp only [ha, h5, ← EReal.coe_add, sum_coe]
  · pointwise [k0_pay4, k0_pay1, k0_pay15]
    simp only [ha, h5, ← EReal.coe_add, ← EReal.coe_mul, sum_coe]

theorem pay3_real (o : Fin 64) (i : Fin 2) : (k0_pay3 : FVec Ideal S64x2 .f32) (ix2 o i) = 0 := by
  pointwise [k0_pay3]

end Cert.KernelIdeal.Hand

end
-- ==== Proof.Value.Pay1.lean ====
module

public import proofs.«01_k».proof.Proof.Ideal.Run1A
public import proofs.«01_k».proof.Proof.Gen.KernelIdeal
public import proofs.«01_k».proof.Proof.Math.Spec

@[expose] public section

set_option maxRecDepth 16384

noncomputable section

/-! What one point of the second call computes, over the real numbers. -/

namespace Cert.KernelIdeal.Hand

open Cert.KernelIdeal Cert.KernelIdeal.Gen Idealize.ShloMosaic Idealize.ShloMosaic.TcCoe
open Cert.Spec
open scoped BigOperators

attribute [local instance] Cert.KernelIdeal.Gen.facts

/-- The two columns of a buffer of sums hold the sums of the rows of `h` and of their squares. -/
structure Sums (h : Fin 4 → Fin 64 → Fin 8192 → ℝ) (s : Vec Ideal S64x2 .f32) : Prop where
  fst : ∀ o, s (ix2 o 0) = ((∑ b, ∑ n, h b o n : ℝ) : EReal)
  snd : ∀ o, s (ix2 o 1) = ((∑ b, ∑ n, h b o n * h b o n : ℝ) : EReal)

/-- The scale made of the sums is the given scale over the root of the variance. -/
theorem scale_real {h : Fin 4 → Fin 64 → Fin 8192 → ℝ} {s : Vec Ideal S64x2 .f32} (hs : Sums h s) (g : ℝ) (o : Fin 64) :
    Ideal.div (g : EReal) (Ideal.sqrt (s (ix2 o 1) * Ideal.ofBits .f32 0x38000000#32
        - s (ix2 o 0) * Ideal.ofBits .f32 0x38000000#32 * (s (ix2 o 0) * Ideal.ofBits .f32 0x38000000#32)
        + Ideal.ofBits .f32 0x3727C5AC#32))
      = ((g / Real.sqrt (var h o + epsV) : ℝ) : EReal) := by
  rw [hs.fst, hs.snd, ofBits_inv_count, ofBits_epsV]
  simp only [← EReal.coe_mul, ← EReal.coe_sub, ← EReal.coe_add]
  have hm : (∑ b, ∑ n, h b o n) * (1 / 32768) = mean h o := by unfold mean; ring
  rw [hm, mul_one_div, ← var_eq, sqrt_coe _ (add_nonneg (var_nonneg h o) epsV_pos.le), div_coe _ _ (ne_of_gt (sqrt_pos h o))]

theorem mean_real {h : Fin 4 → Fin 64 → Fin 8192 → ℝ} {s : Vec Ideal S64x2 .f32} (hs : Sums h s) (o : Fin 64) :
    s (ix2 o 0) * Ideal.ofBits .f32 0x38000000#32 = (mean h o : EReal) := by
  rw [hs.fst, ofBits_inv_count, ← EReal.coe_mul]
  refine congrArg _ ?_
  unfold mean; ring

/-- The second layer of one batch. -/
theorem h2a_real {A : Args} {P : Pick} {b : Fin 4} {x0 : Vec Ideal S1x64x8192 .f32} {x1 : Vec Ideal S64x2 .f32}
    {x2 x3 : Vec Ideal S64x1 .f32} {x4 : Vec Ideal S64x64 .f32} {x5 : Vec Ideal S64x1 .f32}
    (h0 : ∀ o n, x0 (ix3 0 o n) = (h1 A P b o n : EReal)) (hs : Sums (h1 A P) x1)
    (h2' : ∀ o, x2 (ix2 o 0) = (A.g1 o : EReal)) (h3 : ∀ o, x3 (ix2 o 0) = (A.be1 o : EReal))
    (h4 : ∀ o c, x4 (ix2 o c) = (A.W2 o c : EReal)) (h5 : ∀ o, x5 (ix2 o 0) = (A.b2 o : EReal))
    (o : Fin 64) (n : Fin 8192) : h2a x0 x1 x2 x3 x4 x5 (ix2 o n) = (h2 A P b o n : EReal) := by
  pointwise [h2a, k1_pay3]
  simp only [h2', scale_real hs]
  simp only [mean_real hs, h0, h3, h4, h5, ← EReal.coe_mul, ← EReal.coe_sub, ← EReal.coe_add]
  have hy : ∀ c : Fin 64, max (((h1 A P b c n * (A.g1 c / Real.sqrt (var (h1 A P) c + epsV))
      + (A.be1 c - mean (h1 A P) c * (A.g1 c / Real.sqrt (var (h1 A P) c + epsV)))) : ℝ) : EReal) 0 = (y1 A P b c n : EReal) := by
    intro c
    rw [← EReal.coe_zero, max_coe]
    unfold y1
    rw [norm_eq]
    refine congrArg _ (congrArg (max · 0) ?_)
    ring
  simp only [hy, ← EReal.coe_mul, sum_coe, ← EReal.coe_add]
  rfl

theorem h2s_apply (x0 : Vec Ideal S1x64x8192 .f32) (x1 : Vec Ideal S64x2 .f32) (x2 x3 : Vec Ideal S64x1 .f32)
    (x4 : Vec Ideal S64x64 .f32) (x5 : Vec Ideal S64x1 .f32) (o : Fin 64) (n : Fin 8192) :
    h2s x0 x1 x2 x3 x4 x5 (ix3 0 o n) = h2a x0 x1 x2 x3 x4 x5 (ix2 o n) := by
  pointwise [h2a, h2s, k1_pay4]

/-- The second layer added to the running sums, which start from zero at the first batch. -/
theorem pay1_real (i : grid1.Coords) {a : FVec Ideal S64x8192 .f32} {o : Fin 64} {r : Fin 8192 → ℝ}
    (ha : ∀ n, a (ix2 o n) = (r n : EReal)) (s : Vec Ideal S64x2 .f32) :
    k1_pay1 i a s (ix2 o 0) = Scalar.select (Scalar.cmpi .eq (BitVec.ofNat 32 (i 1).val) 0#32) 0 (s (ix2 o 0))
        + ((∑ n, r n : ℝ) : EReal)
    ∧ k1_pay1 i a s (ix2 o 1) = Scalar.select (Scalar.cmpi .eq (BitVec.ofNat 32 (i 1).val) 0#32) 0 (s (ix2 o 1))
        + ((∑ n, r n * r n : ℝ) : EReal) := by
  constructor
  · pointwise [k1_pay1]
    simp only [ha, sum_coe]
  · pointwise [k1_pay1]
    simp only [ha, ← EReal.coe_mul, sum_coe]

/-- A real, and the difference of an extended real and a real. -/
theorem coe_add_sub (x y : ℝ) (z : EReal) : (x : EReal) + (z - (y : EReal)) = ((x - y : ℝ) : EReal) + z := by
  induction z with
  | bot => simp
  | top =>
    rw [EReal.top_sub_coe, EReal.coe_add_top, EReal.coe_add_top]
  | coe z =>
    simp only [← EReal.coe_sub, ← EReal.coe_add]
    refine congrArg _ ?_
    ring

/-- The result's batch. -/
theorem outb_real {A : Args} {P : Pick} {b : Fin 4} {s : Vec Ideal S64x2 .f32} {x6 x7 : Vec Ideal S64x1 .f32}
    {h : Vec Ideal S1x64x8192 .f32} (hs : Sums (h2 A P) s) (h6 : ∀ o, x6 (ix2 o 0) = (A.g2 o : EReal))
    (h7 : ∀ o, x7 (ix2 o 0) = A.be2 o) (hh : ∀ o n, h (ix3 0 o n) = (h2 A P b o n : EReal)) (o : Fin 64) (n : Fin 8192) :
    outb s x6 x7 h (ix3 0 o n) = out A P b o n := by
  pointwise [outb, k1_pay2]
  simp only [h6, scale_real hs]
  simp only [mean_real hs, hh, h7, ← EReal.coe_mul]
  rw [coe_add_sub]
  unfold out
  rw [norm_eq]

end Cert.KernelIdeal.Hand

end
-- ==== Proof.Value.Arr0.lean ====
module

public import proofs.«01_k».proof.Proof.Ideal.Run
public import proofs.«01_k».proof.Proof.Value.Pay0
public import proofs.«01_k».proof.Proof.Value.Pay1
public import Idealize.ShloMosaic.Lib.Pipeline.ValueKit

@[expose] public section

set_option maxRecDepth 16384

noncomputable section

/-! What the first call leaves in its two arrays, over the real numbers: the first layer, and the sums of its rows and of their
    squares. -/

namespace Cert.KernelIdeal.Hand

open Cert.KernelIdeal Cert.KernelIdeal.Gen Idealize.ShloMosaic Idealize.ShloMosaic.TcCoe
open Idealize.ShloMosaic.Pipeline (Dat Cfg Window)
open Cert.Spec
open scoped BigOperators

/-- The arguments in the buffers `X` are the real numbers of `A`. -/
structure Args0 (A : Args) (X : Valuation τ sig (Elt Ideal)) : Prop where
  q : ∀ b c n, (X (Proc.devRef .tc main_arg0) : Vec Ideal S4x3x8192 .f32) (ix3 b c n) = (A.q b c n : EReal)
  k : ∀ b c j, (X (Proc.devRef .tc main_arg1) : Vec Ideal S4x3x1024 .f32) (ix3 b c j) = (A.k b c j : EReal)
  f1 : ∀ b c n, (X (Proc.devRef .tc main_arg2) : Vec Ideal S4x64x8192 .f32) (ix3 b c n) = (A.f1 b c n : EReal)
  f2 : ∀ b c j, (X (Proc.devRef .tc main_arg3) : Vec Ideal S4x64x1024 .f32) (ix3 b c j) = (A.f2 b c j : EReal)
  W1 : ∀ o c, (X (Proc.devRef .tc main_arg4) : Vec Ideal S64x128 .f32) (ix2 o c) = (A.W1 o c : EReal)
  b1 : ∀ o, (X (Proc.devRef .tc main_arg5) : Vec Ideal S64 .f32) (ix1 o) = (A.b1 o : EReal)
  g1 : ∀ o, (X (Proc.devRef .tc main_arg6) : Vec Ideal S64 .f32) (ix1 o) = (A.g1 o : EReal)
  be1 : ∀ o, (X (Proc.devRef .tc main_arg7) : Vec Ideal S64 .f32) (ix1 o) = (A.be1 o : EReal)
  W2 : ∀ o c, (X (Proc.devRef .tc main_arg8) : Vec Ideal S64x64 .f32) (ix2 o c) = (A.W2 o c : EReal)
  b2 : ∀ o, (X (Proc.devRef .tc main_arg9) : Vec Ideal S64 .f32) (ix1 o) = (A.b2 o : EReal)
  g2 : ∀ o, (X (Proc.devRef .tc main_arg10) : Vec Ideal S64 .f32) (ix1 o) = (A.g2 o : EReal)
  be2 : ∀ o, (X (Proc.devRef .tc main_arg11) : Vec Ideal S64 .f32) (ix1 o) = A.be2 o

variable {A : Args} {P : Pick} {m : (ℓ : Loc nD τ sig) → Buf (Elt Ideal) ℓ} {c : Dev nD}

/-! ## Where the blocks lie -/

theorem idx0 : ∀ t : Fin cfg0.N, win0_0.index t = ![t.val / 8, 0, t.val % 8] ∧ win0_1.index t = ![t.val / 8, 0, 0]
    ∧ win0_2.index t = ![t.val / 8, 0, t.val % 8] ∧ win0_3.index t = ![t.val / 8, 0, 0] ∧ win0_4.index t = ![0, 0]
    ∧ win0_5.index t = ![0, 0] ∧ win0_6.index t = ![t.val / 8, 0, t.val % 8] ∧ win0_7.index t = ![0, 0] :=
  (by decide +kernel : ∀ t : Fin grid0.N, win0_0.index t = ![t.val / 8, 0, t.val % 8] ∧ win0_1.index t = ![t.val / 8, 0, 0]
    ∧ win0_2.index t = ![t.val / 8, 0, t.val % 8] ∧ win0_3.index t = ![t.val / 8, 0, 0] ∧ win0_4.index t = ![0, 0]
    ∧ win0_5.index t = ![0, 0] ∧ win0_6.index t = ![t.val / 8, 0, t.val % 8] ∧ win0_7.index t = ![0, 0])

theorem t0_lt (t : Fin cfg0.N) : t.val < 32 := lt_of_lt_of_eq t.isLt N_0

/-- The batch of a point. -/
def bOf (t : Fin cfg0.N) : Fin 4 := ⟨t.val / 8, by have := t0_lt t; omega⟩

/-- The query at a place of a point's tile. -/
def eOf (t : Fin cfg0.N) (n : Fin 1024) : Fin 8192 := ⟨t.val % 8 * 1024 + n.val, by omega⟩

/-! ## The buffers found by the first call -/

theorem V1_v0 (h : Args0 A (V0 m c)) (b : Fin 4) (j : Fin 1024) (i : Fin 3) :
    (V1 m c (Proc.devRef .tc main_v0) : Vec Ideal S4x1024x3 .f32) (ix3 b j i) = (A.k b i j : EReal) := by
  have e : (V1 m c (Proc.devRef .tc main_v0) : Vec Ideal S4x1024x3 .f32)
      = transpose S4x1024x3 [0, 2, 1] (V0 m c (Proc.devRef .tc main_arg1) : Vec Ideal S4x3x1024 .f32) transposes_S4x3x1024_S4x1024x3_0_2_1 := by
    unfold_abbrev_sides
    after_results
  rw [e]
  pointwise
  exact h.k b i j

theorem V1_v1 (h : Args0 A (V0 m c)) (o : Fin 64) :
    (V1 m c (Proc.devRef .tc main_v1) : Vec Ideal S64x1 .f32) (ix2 o 0) = (A.b1 o : EReal) := by
  have e : (V1 m c (Proc.devRef .tc main_v1) : Vec Ideal S64x1 .f32)
      = shapeCast S64x1 (V0 m c (Proc.devRef .tc main_arg5) : Vec Ideal S64 .f32) shapeCasts_S64_S64x1 := by
    unfold_abbrev_sides
    after_results
    rfl
  rw [e]
  pointwise
  exact h.b1 o

/-! ## The blocks of a point -/

theorem blk0_0 (h : Args0 A (V0 m c)) (t : Fin cfg0.N) (i : Fin 3) (n : Fin 1024) :
    (iblk0 (V1 m) c 0 t : Vec Ideal S1x3x1024 .f32) (ix3 0 i n) = (A.q (bOf t) i (eOf t n) : EReal) := by
  rw [← h.q, ← V1_of m c main_arg0 (by decide)]
  blk_ext [iblk0, (idx0 t).1, bOf, eOf]

theorem blk0_1 (h : Args0 A (V0 m c)) (t : Fin cfg0.N) (j : Fin 1024) (i : Fin 3) :
    (iblk0 (V1 m) c 1 t : Vec Ideal S1x1024x3 .f32) (ix3 0 j i) = (A.k (bOf t) i j : EReal) := by
  rw [← V1_v0 h]
  blk_ext [iblk0, (idx0 t).2.1, bOf]

theorem blk0_2 (h : Args0 A (V0 m c)) (t : Fin cfg0.N) (i : Fin 64) (n : Fin 1024) :
    (iblk0 (V1 m) c 2 t : Vec Ideal S1x64x1024 .f32) (ix3 0 i n) = (A.f1 (bOf t) i (eOf t n) : EReal) := by
  rw [← h.f1, ← V1_of m c main_arg2 (by decide)]
  blk_ext [iblk0, (idx0 t).2.2.1, bOf, eOf]

theorem blk0_3 (h : Args0 A (V0 m c)) (t : Fin cfg0.N) (i : Fin 64) (j : Fin 1024) :
    (iblk0 (V1 m) c 3 t : Vec Ideal S1x64x1024 .f32) (ix3 0 i j) = (A.f2 (bOf t) i j : EReal) := by
  rw [← h.f2, ← V1_of m c main_arg3 (by decide)]
  blk_ext [iblk0, (idx0 t).2.2.2.1, bOf]

theorem blk0_4 (h : Args0 A (V0 m c)) (t : Fin cfg0.N) (o : Fin 64) (i : Fin 128) :
    (iblk0 (V1 m) c 4 t : Vec Ideal S64x128 .f32) (ix2 o i) = (A.W1 o i : EReal) := by
  rw [← h.W1, ← V1_of m c main_arg4 (by decide)]
  blk_ext [iblk0, (idx0 t).2.2.2.2.1]

theorem blk0_5 (h : Args0 A (V0 m c)) (t : Fin cfg0.N) (o : Fin 64) :
    (iblk0 (V1 m) c 5 t : Vec Ideal S64x1 .f32) (ix2 o 0) = (A.b1 o : EReal) := by
  rw [← V1_v1 h]
  blk_ext [iblk0, (idx0 t).2.2.2.2.2.1]

/-! ## The layer at a point -/

/-- The scratch buffer holds the key norms of the batch. -/
theorem knAt_real (h : Args0 A (V0 m c)) (n : ℕ) (hn : n < cfg0.N) (j : Fin 1024) :
    knAt (V1 m) c n hn (ix2 j 0) = ((∑ i, A.k (bOf ⟨n, hn⟩) i j * A.k (bOf ⟨n, hn⟩) i j : ℝ) : EReal) := by
  induction n with
  | zero => exact pay6_real (blk0_1 h ⟨0, hn⟩) j
  | succ n ih =>
    by_cases h8 : (n + 1) % 8 = 0
    · rw [knAt_reset (V1 m) c ⟨n + 1, hn⟩ h8]
      exact pay6_real (blk0_1 h ⟨n + 1, hn⟩) j
    · rw [knAt_keep (V1 m) c ⟨n + 1, hn⟩ h8]
      have e : bOf ⟨n + 1, hn⟩ = bOf ⟨n, Nat.lt_of_succ_lt hn⟩ := Fin.ext (by unfold bOf; simp only; omega)
      rw [e]
      exact ih (Nat.lt_of_succ_lt hn)

theorem tile0 (h : Args0 A (V0 m c)) (t : Fin cfg0.N) :
    Tile A (bOf t) (eOf t) (iblk0 (V1 m) c 0 t) (iblk0 (V1 m) c 1 t) (knAt (V1 m) c t.val t.isLt) :=
  ⟨blk0_0 h t, blk0_1 h t, knAt_real h t.val t.isLt⟩

variable (hP : ∀ b n, Near (Spec.dist A b n) (P b n))

include hP in
theorem h1At_real (h : Args0 A (V0 m c)) (t : Fin cfg0.N) (o : Fin 64) (n : Fin 1024) :
    h1At (V1 m) c t (ix2 o n) = ((h1 A P (bOf t) o (eOf t n) - A.b1 o : ℝ) : EReal) := by
  unfold h1At
  rw [h1a_real (tile0 h t) (blk0_2 h t) (blk0_3 h t) (blk0_4 h t) o n (hP _ _)]
  refine congrArg _ ?_
  unfold h1
  ring

/-! ## The layer's array -/

include hP in
theorem v2_0_real (h : Args0 A (V0 m c)) (b : Fin 4) (o : Fin 64) (n : Fin 8192) :
    ((dat0 (V1 m) c).arrAt 6 cfg0.N : Vec Ideal S4x64x8192 .f32) (ix3 b o n) = (h1 A P b o n : EReal) := by
  have e : ((dat0 (V1 m) c).arrAt 6 cfg0.N : Vec Ideal S4x64x8192 .f32)
      = fun i : S4x64x8192.Idx => ((h1 A P (i 0) (i 1) (i 2) : ℝ) : EReal) := by
    refine (dat0 (V1 m) c).arrAt_eq_of_covers 6 _ (by decide +kernel) fun t hf y => ?_
    blk_simp
    rw [after0_6]
    obtain ⟨a, o', n', rfl⟩ : ∃ (a : Fin 1) (o' : Fin 64) (n' : Fin 1024), y = ix3 a o' n' := ⟨_, _, _, eq_ix3 y⟩
    obtain rfl : a = 0 := Subsingleton.elim _ _
    have e0 : ((cfg0.win 6).blk t).view.emb (ix3 0 o' n') 0 = bOf t := by
      apply Fin.ext
      blk_simp [(idx0 t).2.2.2.2.2.2.1]
      simp [bOf]
    have e1 : ((cfg0.win 6).blk t).view.emb (ix3 0 o' n') 1 = o' := by
      apply Fin.ext
      blk_simp [(idx0 t).2.2.2.2.2.2.1]
    have e2 : ((cfg0.win 6).blk t).view.emb (ix3 0 o' n') 2 = eOf t n' := by
      apply Fin.ext
      blk_simp [(idx0 t).2.2.2.2.2.2.1]
      simp [eOf]
    refine (pay2_real (h1At_real hP h t o' n') (blk0_5 h t o')).trans ?_
    rw [sub_add_cancel]
    exact congrArg _ (congr (congr (congrArg (h1 A P) e0.symm) e1.symm) e2.symm)
  rw [e]
  rfl

/-! ## The sums -/

/-- The sums over a point's tile. -/
def part1 (A : Args) (P : Pick) (f : ℝ → ℝ) (o : Fin 64) (t : Fin cfg0.N) : ℝ := ∑ n, f (h1 A P (bOf t) o (eOf t n))

include hP in
theorem stAt_step (h : Args0 A (V0 m c)) (t : Fin cfg0.N) (o : Fin 64) (s : Vec Ideal S64x2 .f32) :
    k0_pay4 (h1At (V1 m) c t) (k0_pay15 (iblk0 (V1 m) c 5 t)) s (ix2 o 0)
        = s (ix2 o 0) + (part1 A P (fun x => x) o t : EReal)
      ∧ k0_pay4 (h1At (V1 m) c t) (k0_pay15 (iblk0 (V1 m) c 5 t)) s (ix2 o 1)
        = s (ix2 o 1) + (part1 A P (fun x => x * x) o t : EReal) := by
  have := pay4_real (A := A) (fun n => h1At_real hP h t o n) (blk0_5 h t o) s
  simp only [sub_add_cancel] at this
  exact this

include hP in
theorem stAt_real (h : Args0 A (V0 m c)) (o : Fin 64) (n : ℕ) (hn : n < cfg0.N) :
    stAt (V1 m) c n hn (ix2 o 0) = ((∑ t ∈ Finset.univ.filter (fun t : Fin cfg0.N => t.val ≤ n), part1 A P (fun x => x) o t : ℝ) : EReal)
    ∧ stAt (V1 m) c n hn (ix2 o 1) = ((∑ t ∈ Finset.univ.filter (fun t : Fin cfg0.N => t.val ≤ n), part1 A P (fun x => x * x) o t : ℝ) : EReal) := by
  have hsplit : ∀ (g : Fin cfg0.N → ℝ) (k : ℕ) (hk : k + 1 < cfg0.N), (∑ t ∈ Finset.univ.filter (fun t : Fin cfg0.N => t.val ≤ k + 1), g t)
      = (∑ t ∈ Finset.univ.filter (fun t : Fin cfg0.N => t.val ≤ k), g t) + g ⟨k + 1, hk⟩ := by
    intro g k hk
    have e : Finset.univ.filter (fun t : Fin cfg0.N => t.val ≤ k + 1)
        = insert ⟨k + 1, hk⟩ (Finset.univ.filter (fun t : Fin cfg0.N => t.val ≤ k)) := by
      ext t
      simp only [Finset.mem_filter, Finset.mem_univ, true_and, Finset.mem_insert, Fin.ext_iff]
      omega
    rw [e, Finset.sum_insert (by simp), add_comm]
  induction n with
  | zero =>
    have e : Finset.univ.filter (fun t : Fin cfg0.N => t.val ≤ 0) = {⟨0, hn⟩} := by
      ext t
      simp only [Finset.mem_filter, Finset.mem_univ, true_and, Finset.mem_singleton, Fin.ext_iff]
      omega
    have := stAt_step hP h ⟨0, hn⟩ o (k0_pay3 : FVec Ideal S64x2 .f32)
    rw [pay3_real, pay3_real, zero_add, zero_add] at this
    rw [e, Finset.sum_singleton, Finset.sum_singleton]
    exact this
  | succ n ih =>
    have := stAt_step hP h ⟨n + 1, hn⟩ o (stAt (V1 m) c n (Nat.lt_of_succ_lt hn))
    obtain ⟨i0, i1⟩ := ih (Nat.lt_of_succ_lt hn)
    rw [i0, i1, ← EReal.coe_add, ← EReal.coe_add] at this
    rw [hsplit _ n hn, hsplit _ n hn]
    exact this

/-- The sums over all points are the sums over all batches and queries. -/
theorem part1_sum (f : ℝ → ℝ) (o : Fin 64) : (∑ t, part1 A P f o t) = ∑ b, ∑ n, f (h1 A P b o n) := by
  unfold part1
  refine Fin.sum_points_lanes_congr (hN := N_0) 8 fun t k ha hl => ?_
  rfl

/-- The last point. -/
def last0 : Fin cfg0.N := ⟨31, lt_of_lt_of_eq (by decide) N_0.symm⟩

include hP in
theorem v2_1_real (h : Args0 A (V0 m c)) : Sums (h1 A P) ((dat0 (V1 m) c).arrAt 7 cfg0.N : Vec Ideal S64x2 .f32) := by
  have hl : (31 : ℕ) < cfg0.N := lt_of_lt_of_eq (by decide) N_0.symm
  have e : ((dat0 (V1 m) c).arrAt 7 cfg0.N : Vec Ideal S64x2 .f32) = stAt (V1 m) c 31 hl := by
    refine (dat0 (V1 m) c).arrAt_eq_of_after_last 7 last0 (by decide +kernel) _ fun j => ?_
    blk_simp
    rw [after0_7]
    rfl
  have hu : Finset.univ.filter (fun t : Fin cfg0.N => t.val ≤ 31) = Finset.univ := by
    ext t
    have := t0_lt t
    simp only [Finset.mem_filter, Finset.mem_univ, true_and, iff_true]
    omega
  rw [e]
  refine ⟨fun o => ?_, fun o => ?_⟩
  · rw [(stAt_real hP h o 31 hl).1, hu, part1_sum]
  · rw [(stAt_real hP h o 31 hl).2, hu, part1_sum]

end Cert.KernelIdeal.Hand

end
-- ==== Proof.Value.Arr1.lean ====
module

public import proofs.«01_k».proof.Proof.Value.Arr0

@[expose] public section

set_option maxRecDepth 16384

noncomputable section

/-! What the second call leaves in the result, over the real numbers. -/

namespace Cert.KernelIdeal.Hand

open Cert.KernelIdeal Cert.KernelIdeal.Gen Idealize.ShloMosaic Idealize.ShloMosaic.TcCoe
open Idealize.ShloMosaic.Pipeline (Dat Cfg Window)
open Cert.Spec
open scoped BigOperators

variable {A : Args} {P : Pick} {m : (ℓ : Loc nD τ sig) → Buf (Elt Ideal) ℓ} {c : Dev nD}

/-! ## Where the blocks lie -/

theorem idx1 : ∀ t : Fin cfg1.N, win1_0.index t = ![min t.val 3, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![t.val - 4, 0, 0] :=
  (by decide +kernel : ∀ t : Fin grid1.N, win1_0.index t = ![min t.val 3, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![t.val - 4, 0, 0])

theorem t1_lt (t : Fin cfg1.N) : t.val < 8 := lt_of_lt_of_eq t.isLt N_1

/-! ## The buffers found by the second call -/

theorem W3_v2_0 : W3 m c (Proc.devRef .tc main_v2_0) = (dat0 (V1 m) c).arrAt 6 cfg0.N := by
  rw [← V3_W3, V3_of m (outs m) c main_v2_0 (by decide), V2_after]
  exact Pipeline.afterRegion_arr (dat0 (V1 m) c) (V1 m c) winFacts0.arr_inj 6

theorem W3_v2_1 : W3 m c (Proc.devRef .tc main_v2_1) = (dat0 (V1 m) c).arrAt 7 cfg0.N := by
  rw [← V3_W3, V3_of m (outs m) c main_v2_1 (by decide), V2_after]
  exact Pipeline.afterRegion_arr (dat0 (V1 m) c) (V1 m c) winFacts0.arr_inj 7

theorem W3_arg8 : W3 m c (Proc.devRef .tc main_arg8) = V0 m c (Proc.devRef .tc main_arg8) := by
  rw [← V3_W3, V3_of m (outs m) c main_arg8 (by decide), V2_of m (outs m) c main_arg8 (by decide), V1_of m c main_arg8 (by decide)]

theorem W3_v3 (o : Fin 64) : (W3 m c (Proc.devRef .tc main_v3) : Vec Ideal S64x1 .f32) (ix2 o 0)
    = (V0 m c (Proc.devRef .tc main_arg6) : Vec Ideal S64 .f32) (ix1 o) := by
  have e : (V3 m (outs m) c (Proc.devRef .tc main_v3) : Vec Ideal S64x1 .f32)
      = shapeCast S64x1 (V2 m (outs m) c (Proc.devRef .tc main_arg6) : Vec Ideal S64 .f32) shapeCasts_S64_S64x1 := by
    unfold_abbrev_sides
    after_results
    rfl
  rw [← V3_W3, e, V2_of m (outs m) c main_arg6 (by decide), V1_of m c main_arg6 (by decide)]
  pointwise

theorem W3_v4 (o : Fin 64) : (W3 m c (Proc.devRef .tc main_v4) : Vec Ideal S64x1 .f32) (ix2 o 0)
    = (V0 m c (Proc.devRef .tc main_arg7) : Vec Ideal S64 .f32) (ix1 o) := by
  have e : (V3 m (outs m) c (Proc.devRef .tc main_v4) : Vec Ideal S64x1 .f32)
      = shapeCast S64x1 (V2 m (outs m) c (Proc.devRef .tc main_arg7) : Vec Ideal S64 .f32) shapeCasts_S64_S64x1 := by
    unfold_abbrev_sides
    after_results
    rfl
  rw [← V3_W3, e, V2_of m (outs m) c main_arg7 (by decide), V1_of m c main_arg7 (by decide)]
  pointwise

theorem W3_v5 (o : Fin 64) : (W3 m c (Proc.devRef .tc main_v5) : Vec Ideal S64x1 .f32) (ix2 o 0)
    = (V0 m c (Proc.devRef .tc main_arg9) : Vec Ideal S64 .f32) (ix1 o) := by
  have e : (V3 m (outs m) c (Proc.devRef .tc main_v5) : Vec Ideal S64x1 .f32)
      = shapeCast S64x1 (V2 m (outs m) c (Proc.devRef .tc main_arg9) : Vec Ideal S64 .f32) shapeCasts_S64_S64x1 := by
    unfold_abbrev_sides
    after_results
    rfl
  rw [← V3_W3, e, V2_of m (outs m) c main_arg9 (by decide), V1_of m c main_arg9 (by decide)]
  pointwise

theorem W3_v6 (o : Fin 64) : (W3 m c (Proc.devRef .tc main_v6) : Vec Ideal S64x1 .f32) (ix2 o 0)
    = (V0 m c (Proc.devRef .tc main_arg10) : Vec Ideal S64 .f32) (ix1 o) := by
  have e : (V3 m (outs m) c (Proc.devRef .tc main_v6) : Vec Ideal S64x1 .f32)
      = shapeCast S64x1 (V2 m (outs m) c (Proc.devRef .tc main_arg10) : Vec Ideal S64 .f32) shapeCasts_S64_S64x1 := by
    unfold_abbrev_sides
    after_results
    rfl
  rw [← V3_W3, e, V2_of m (outs m) c main_arg10 (by decide), V1_of m c main_arg10 (by decide)]
  pointwise

theorem W3_v7 (o : Fin 64) : (W3 m c (Proc.devRef .tc main_v7) : Vec Ideal S64x1 .f32) (ix2 o 0)
    = (V0 m c (Proc.devRef .tc main_arg11) : Vec Ideal S64 .f32) (ix1 o) := by
  have e : (V3 m (outs m) c (Proc.devRef .tc main_v7) : Vec Ideal S64x1 .f32)
      = shapeCast S64x1 (V2 m (outs m) c (Proc.devRef .tc main_arg11) : Vec Ideal S64 .f32) shapeCasts_S64_S64x1 := by
    unfold_abbrev_sides
    after_results
    rfl
  rw [← V3_W3, e, V2_of m (outs m) c main_arg11 (by decide), V1_of m c main_arg11 (by decide)]
  pointwise

/-! ## The blocks of a point -/

variable (hP : ∀ b n, Near (Spec.dist A b n) (P b n))

/-- The batch of a point of the first phase. -/
def b1Of (t : Fin cfg1.N) : Fin 4 := ⟨min t.val 3, by omega⟩

include hP in
theorem blk1_0 (h : Args0 A (V0 m c)) (t : Fin cfg1.N) (o : Fin 64) (n : Fin 8192) :
    (iblk1 (W3 m) c 0 t : Vec Ideal S1x64x8192 .f32) (ix3 0 o n) = (h1 A P (b1Of t) o n : EReal) := by
  rw [← v2_0_real hP h, ← W3_v2_0]
  blk_ext [iblk1, (idx1 t).1, b1Of]

include hP in
theorem blk1_1 (h : Args0 A (V0 m c)) (t : Fin cfg1.N) : Sums (h1 A P) (iblk1 (W3 m) c 1 t : Vec Ideal S64x2 .f32) := by
  have e : (iblk1 (W3 m) c 1 t : Vec Ideal S64x2 .f32) = (W3 m c (Proc.devRef .tc main_v2_1) : Vec Ideal S64x2 .f32) := by
    funext y
    blk_ext [iblk1, (idx1 t).2.1]
  rw [e, W3_v2_1]
  exact v2_1_real hP h

theorem blk1_2 (h : Args0 A (V0 m c)) (t : Fin cfg1.N) (o : Fin 64) :
    (iblk1 (W3 m) c 2 t : Vec Ideal S64x1 .f32) (ix2 o 0) = (A.g1 o : EReal) := by
  rw [← h.g1, ← W3_v3]
  blk_ext [iblk1, (idx1 t).2.2.1]

theorem blk1_3 (h : Args0 A (V0 m c)) (t : Fin cfg1.N) (o : Fin 64) :
    (iblk1 (W3 m) c 3 t : Vec Ideal S64x1 .f32) (ix2 o 0) = (A.be1 o : EReal) := by
  rw [← h.be1, ← W3_v4]
  blk_ext [iblk1, (idx1 t).2.2.2.1]

theorem blk1_4 (h : Args0 A (V0 m c)) (t : Fin cfg1.N) (o : Fin 64) (i : Fin 64) :
    (iblk1 (W3 m) c 4 t : Vec Ideal S64x64 .f32) (ix2 o i) = (A.W2 o i : EReal) := by
  rw [← h.W2, ← W3_arg8]
  blk_ext [iblk1, (idx1 t).2.2.2.2.1]

theorem blk1_5 (h : Args0 A (V0 m c)) (t : Fin cfg1.N) (o : Fin 64) :
    (iblk1 (W3 m) c 5 t : Vec Ideal S64x1 .f32) (ix2 o 0) = (A.b2 o : EReal) := by
  rw [← h.b2, ← W3_v5]
  blk_ext [iblk1, (idx1 t).2.2.2.2.2.1]

theorem blk1_6 (h : Args0 A (V0 m c)) (t : Fin cfg1.N) (o : Fin 64) :
    (iblk1 (W3 m) c 6 t : Vec Ideal S64x1 .f32) (ix2 o 0) = (A.g2 o : EReal) := by
  rw [← h.g2, ← W3_v6]
  blk_ext [iblk1, (idx1 t).2.2.2.2.2.2.1]

theorem blk1_7 (h : Args0 A (V0 m c)) (t : Fin cfg1.N) (o : Fin 64) :
    (iblk1 (W3 m) c 7 t : Vec Ideal S64x1 .f32) (ix2 o 0) = A.be2 o := by
  rw [← h.be2, ← W3_v7]
  blk_ext [iblk1, (idx1 t).2.2.2.2.2.2.2.1]

/-! ## The second layer and its sums -/

include hP in
theorem h2At_real (h : Args0 A (V0 m c)) (t : Fin cfg1.N) (o : Fin 64) (n : Fin 8192) :
    h2At (W3 m) c t (ix2 o n) = (h2 A P (b1Of t) o n : EReal) :=
  h2a_real (blk1_0 hP h t) (blk1_1 hP h t) (blk1_2 h t) (blk1_3 h t) (blk1_4 h t) (blk1_5 h t) o n

include hP in
theorem h2sAt_real (h : Args0 A (V0 m c)) (t : Fin cfg1.N) (o : Fin 64) (n : Fin 8192) :
    h2sAt (W3 m) c t (ix3 0 o n) = (h2 A P (b1Of t) o n : EReal) :=
  (h2s_apply _ _ _ _ _ _ o n).trans (h2At_real hP h t o n)

/-- The sums over one batch. -/
def part2 (A : Args) (P : Pick) (f : ℝ → ℝ) (o : Fin 64) (b : Fin 4) : ℝ := ∑ n, f (h2 A P b o n)

include hP in
theorem st2At_first (h : Args0 A (V0 m c)) (o : Fin 64) (h0 : 0 < cfg1.N) :
    st2At (W3 m) c 0 h0 (ix2 o 0) = (part2 A P (fun x => x) o 0 : EReal)
    ∧ st2At (W3 m) c 0 h0 (ix2 o 1) = (part2 A P (fun x => x * x) o 0 : EReal) := by
  have := pay1_real (grid1.coords ⟨0, h0⟩) (fun n => h2At_real hP h ⟨0, h0⟩ o n) (k0_pay3 : FVec Ideal S64x2 .f32)
  rw [coord1_1] at this
  simp only [pay3_real] at this
  have z : Scalar.select (Scalar.cmpi .eq (BitVec.ofNat 32 (0 % 4)) 0#32) (0 : EReal) 0 = 0 := rfl
  rw [z, zero_add, zero_add] at this
  exact this

include hP in
theorem st2At_step (h : Args0 A (V0 m c)) (o : Fin 64) (n : ℕ) (hn : n + 1 < cfg1.N) (h4 : n + 1 < 4) :
    st2At (W3 m) c (n + 1) hn (ix2 o 0)
      = st2At (W3 m) c n (Nat.lt_of_succ_lt hn) (ix2 o 0) + (part2 A P (fun x => x) o ⟨n + 1, h4⟩ : EReal)
    ∧ st2At (W3 m) c (n + 1) hn (ix2 o 1)
      = st2At (W3 m) c n (Nat.lt_of_succ_lt hn) (ix2 o 1) + (part2 A P (fun x => x * x) o ⟨n + 1, h4⟩ : EReal) := by
  have := pay1_real (grid1.coords ⟨n + 1, hn⟩) (fun n' => h2At_real hP h ⟨n + 1, hn⟩ o n') (st2At (W3 m) c n (Nat.lt_of_succ_lt hn))
  rw [coord1_1] at this
  have z : ∀ x : EReal, Scalar.select (Scalar.cmpi .eq (BitVec.ofNat 32 ((n + 1) % 4)) 0#32) (0 : EReal) x = x := by
    intro x
    have : n = 0 ∨ n = 1 ∨ n = 2 := by omega
    rcases this with rfl | rfl | rfl <;> rfl
  simp only [z] at this
  have e : b1Of ⟨n + 1, hn⟩ = ⟨n + 1, h4⟩ := Fin.ext (by unfold b1Of; simp only; omega)
  rw [e] at this
  exact this

include hP in
theorem st2L_real (h : Args0 A (V0 m c)) : Sums (h2 A P) (st2L (W3 m) c) := by
  have l : ∀ k, k < 4 → k < cfg1.N := fun k hk => lt_of_lt_of_eq (by omega : k < 8) N_1.symm
  refine ⟨fun o => ?_, fun o => ?_⟩
  · unfold st2L
    rw [(st2At_step hP h o 2 (l 3 (by omega)) (by omega)).1, (st2At_step hP h o 1 (l 2 (by omega)) (by omega)).1,
      (st2At_step hP h o 0 (l 1 (by omega)) (by omega)).1, (st2At_first hP h o (l 0 (by omega))).1,
      ← EReal.coe_add, ← EReal.coe_add, ← EReal.coe_add, Fin.sum_univ_four]
    rfl
  · unfold st2L
    rw [(st2At_step hP h o 2 (l 3 (by omega)) (by omega)).2, (st2At_step hP h o 1 (l 2 (by omega)) (by omega)).2,
      (st2At_step hP h o 0 (l 1 (by omega)) (by omega)).2, (st2At_first hP h o (l 0 (by omega))).2,
      ← EReal.coe_add, ← EReal.coe_add, ← EReal.coe_add, Fin.sum_univ_four]
    rfl

/-! ## The result -/

include hP in
theorem out8At_real (h : Args0 A (V0 m c)) (t : Fin cfg1.N) (o : Fin 64) (n : Fin 8192) :
    out8At (W3 m) c t (ix3 0 o n) = out A P ⟨t.val % 4, by omega⟩ o n := by
  refine outb_real (st2L_real hP h) (blk1_6 h t) (blk1_7 h t) (fun o n => ?_) o n
  rw [h2sAt_real hP h]
  have e : b1Of (pt1 (t.val % 4) (by omega)) = ⟨t.val % 4, by omega⟩ := Fin.ext (by unfold b1Of; simp only; omega)
  rw [e]

include hP in
/-- The result's array. -/
theorem result_real (h : Args0 A (V0 m c)) (b : Fin 4) (o : Fin 64) (n : Fin 8192) :
    ((dat1 (W3 m) c).arrAt 8 cfg1.N : Vec Ideal S4x64x8192 .f32) (ix3 b o n) = out A P b o n := by
  have e : ((dat1 (W3 m) c).arrAt 8 cfg1.N : Vec Ideal S4x64x8192 .f32)
      = fun i : S4x64x8192.Idx => out A P (i 0) (i 1) (i 2) := by
    refine (dat1 (W3 m) c).arrAt_eq_of_covers 8 _ (by decide +kernel) fun t hf y => ?_
    have h4 : 4 ≤ t.val := of_decide_eq_true ((flush1_8 t).symm.trans hf)
    have h8 := t1_lt t
    blk_simp
    rw [after1_8]
    obtain ⟨a, o', n', rfl⟩ : ∃ (a : Fin 1) (o' : Fin 64) (n' : Fin 8192), y = ix3 a o' n' := ⟨_, _, _, eq_ix3 y⟩
    obtain rfl : a = 0 := Subsingleton.elim _ _
    have e0 : ((cfg1.win 8).blk t).view.emb (ix3 0 o' n') 0 = (⟨t.val % 4, by omega⟩ : Fin 4) := by
      apply Fin.ext
      blk_simp [(idx1 t).2.2.2.2.2.2.2.2]
      simp
      omega
    have e1 : ((cfg1.win 8).blk t).view.emb (ix3 0 o' n') 1 = o' := by
      apply Fin.ext
      blk_simp [(idx1 t).2.2.2.2.2.2.2.2]
    have e2 : ((cfg1.win 8).blk t).view.emb (ix3 0 o' n') 2 = n' := by
      apply Fin.ext
      blk_simp [(idx1 t).2.2.2.2.2.2.2.2]
    refine (out8At_real hP h t o' n').trans ?_
    exact congr (congr (congrArg (out A P) e0.symm) e1.symm) e2.symm
  rw [e]
  rfl

end Cert.KernelIdeal.Hand

end
-- ==== Proof.PreFacts.lean ====
module

public import proofs.«01_k».proof.Pre_finite_and_apart

@[expose] public section

namespace Cert.Pre_finite_and_apart.Hand

open Idealize.ShloMosaic Cert.Pre_finite_and_apart

/-- The side conditions of the precondition's operations, each decided. -/
instance facts : Cert.Pre_finite_and_apart.Facts where
  reducesTo_S4x3x8192_S_d0_1_2 := by decide
  h_S_ := by decide
  reducesTo_S4x3x1024_S_d0_1_2 := by decide
  reducesTo_S4x64x8192_S_d0_1_2 := by decide
  reducesTo_S4x64x1024_S_d0_1_2 := by decide
  reducesTo_S64x128_S_d0_1 := by decide
  reducesTo_S64_S_d0 := by decide
  reducesTo_S64x64_S_d0_1 := by decide
  transposes_S4x3x8192_S4x8192x3_0_2_1 := by decide
  transposes_S4x3x1024_S4x1024x3_0_2_1 := by decide
  reducesTo_S4x8192x3_S4x8192_d2 := by decide
  bcast_S4x8192_S4x8192x1_0_1 := by decide
  reducesTo_S4x1024x3_S4x1024_d2 := by decide
  bcast_S4x1024_S4x1x1024_0_2 := by decide
  bcast_S4x8192x1_S4x8192x1024_0_1_2 := by decide
  bcast_S4x1x1024_S4x8192x1024_0_1_2 := by decide
  bcast_S_S4x8192x1024 := by decide
  sliceFits_S4x8192x1024_S4x8192x4 := by decide
  slices_S4x8192x4_S4x8192x3_0_0_0 := by decide
  slices_S4x8192x4_S4x8192x3_0_0_1 := by decide
  bcast_S_S4x8192 := by decide
  dot_S4x8192x3_S4x1024x3_S4x8192x1024_2_2_1_1_0_0_wf := by decide

end Cert.Pre_finite_and_apart.Hand

end
-- ==== Proof.Value.Read.lean ====
module

public import proofs.«01_k».proof.Proof.Math.Near
public import Idealize.ShloMosaic.Lib.ReduceAll

@[expose] public section

set_option maxRecDepth 16384

noncomputable section

/-! Reading at an index the operations that sort, look up, or add over a whole axis. -/

namespace Cert.Spec

open Idealize.ShloMosaic
open scoped BigOperators

abbrev Row (m : Nat) : Shape := ⟨3, ![4, 8192, m]⟩

theorem along_last (b : Fin 4) (n : Fin 8192) (i k : Fin 1024) :
    (ix3 b n i : (Row 1024).Idx).along 2 k = ix3 b n k := by
  funext a
  fin_cases a <;> rfl

/-- A sort of every row together with its positions. -/
theorem sort_rows (x : FVec Ideal (Row 1024) .f32) (y : (Row 1024).Idx → BitVec 32) (b : Fin 4) (n : Fin 8192) (i : Fin 1024) :
    (Host.sort2 (Row 1024) 2 (fun l r => FloatOps.cmpfTotal .gt l.1 r.1) x y).1 (ix3 b n i)
      = x (ix3 b n (order (fun k => x (ix3 b n k)) i))
    ∧ (Host.sort2 (Row 1024) 2 (fun l r => FloatOps.cmpfTotal .gt l.1 r.1) x y).2 (ix3 b n i)
      = y (ix3 b n (order (fun k => x (ix3 b n k)) i)) := by
  unfold Host.sort2
  rw [dif_pos (show 2 < (Row 1024).rank from by decide)]
  have hπ : order (fun k => x ((ix3 b n i : (Row 1024).Idx).along 2 k)) i = order (fun k => x (ix3 b n k)) i :=
    congrArg (fun f => order f i) (funext fun k => by rw [along_last])
  exact ⟨congrArg x ((along_last b n i _).trans (congrArg (ix3 b n) hπ)),
    congrArg y ((along_last b n i _).trans (congrArg (ix3 b n) hπ))⟩

/-- The greatest entries of a row. -/
theorem topK_val {m : Nat} (hm : m ≤ 1024) (x : FVec Ideal (Row 1024) .f32) (h : (Row 1024).Slices (fun _ => 0) (Row m)) (b : Fin 4) (n : Fin 8192)
    (i : Fin m) : (Host.topK (Row m) 2 (FloatOps.cmpfTotal .gt) x h).1 (ix3 b n i)
      = x (ix3 b n (order (fun k => x (ix3 b n k)) ⟨i.val, by omega⟩)) := by
  pointwise [Host.topK]
  exact (sort_rows x _ b n ⟨i.val, by omega⟩).1

/-- The positions of the greatest entries of a row. -/
theorem topK_idx {m : Nat} (hm : m ≤ 1024) (x : FVec Ideal (Row 1024) .f32) (h : (Row 1024).Slices (fun _ => 0) (Row m)) (b : Fin 4) (n : Fin 8192)
    (i : Fin m) : (Host.topK (Row m) 2 (FloatOps.cmpfTotal .gt) x h).2 (ix3 b n i)
      = BitVec.ofNat 32 (order (fun k => x (ix3 b n k)) ⟨i.val, by omega⟩).val := by
  pointwise [Host.topK]
  exact (sort_rows x _ b n ⟨i.val, by omega⟩).2

/-- The sum over the first and the last axis. -/
theorem sum_outer (h : (⟨3, ![4, 64, 8192]⟩ : Shape).ReducesTo [0, 2] ⟨1, ![64]⟩) (v : (⟨3, ![4, 64, 8192]⟩ : Shape).Idx → EReal)
    (o : Fin 64) : Ideal.hostReduceAdd h v 0 (ix1 o) = ∑ b, ∑ n, v (ix3 b o n) := by
  unfold Ideal.hostReduceAdd
  rw [zero_add, Finset.sum_filter]
  have hd : ∀ i : (⟨3, ![4, 64, 8192]⟩ : Shape).Idx, h.drop i = ix1 o ↔ i 1 = o := by
    intro i
    constructor
    · intro e
      have := congrFun e 0
      exact this
    · intro e
      funext a
      fin_cases a
      exact e
  rw [sum_idx3]
  refine Finset.sum_congr rfl fun b _ => ?_
  rw [Finset.sum_comm]
  refine Finset.sum_congr rfl fun n _ => ?_
  rw [Finset.sum_eq_single o]
  · exact if_pos ((hd _).mpr rfl)
  · intro c _ hc
    exact if_neg fun e => hc ((hd _).mp e)
  · intro hc
    exact absurd (Finset.mem_univ o) hc

/-- A row of a table looked up by its two leading coordinates. -/
theorem lookup (d : GatherDims ⟨3, ![4, 1024, 64]⟩ ⟨4, ![4, 8192, 3, 2]⟩ ⟨4, ![4, 8192, 3, 64]⟩)
    (wf) (hd : d = ⟨[3], [0, 1], [], [], [0, 1], 3, ![1, 1, 64], wf⟩)
    (x : (⟨3, ![4, 1024, 64]⟩ : Shape).Idx → EReal) (idx : IVec ⟨4, ![4, 8192, 3, 2]⟩ 32) (b : Fin 4) (n : Fin 8192) (i : Fin 3)
    (c : Fin 64) (j : Fin 1024) (h0 : idx (ix4 b n i 0) = BitVec.ofNat 32 b.val) (h1 : idx (ix4 b n i 1) = BitVec.ofNat 32 j.val) :
    Host.gather d x idx (ix4 b n i c) = x (ix3 b j c) := by
  subst hd
  unfold Host.gather
  refine congrArg x ?_
  have e0 : ∀ k : Fin 4, (BitVec.ofNat 32 k.val).toInt.toNat = k.val := by decide
  have e1 : ∀ k : Fin 1024, (BitVec.ofNat 32 k.val).toInt.toNat = k.val := by
    intro k
    have := k.isLt
    rw [BitVec.toInt_eq_toNat_of_lt (by rw [BitVec.toNat_ofNat]; omega), BitVec.toNat_ofNat]
    omega
  funext a
  apply Fin.ext
  fin_cases a
  · show min (idx _).toInt.toNat (4 - 1) + 0 + 0 = b.val
    have hi : ∀ w : (⟨4, ![4, 8192, 3, 2]⟩ : Shape).Idx, w = ix4 b n i 0 → min (idx w).toInt.toNat (4 - 1) + 0 + 0 = b.val := by
      rintro w rfl
      rw [h0, e0]
      omega
    refine hi _ ?_
    funext a
    fin_cases a <;> rfl
  · show min (idx _).toInt.toNat (1024 - 1) + 0 + 0 = j.val
    have hi : ∀ w : (⟨4, ![4, 8192, 3, 2]⟩ : Shape).Idx, w = ix4 b n i 1 → min (idx w).toInt.toNat (1024 - 1) + 0 + 0 = j.val := by
      rintro w rfl
      rw [h1, e1]
      omega
    refine hi _ ?_
    funext a
    fin_cases a <;> rfl
  · show 0 + 0 + c.val = c.val
    omega

/-- A number whose absolute value is below the infinity is a real. -/
theorem real_of_abs {x : EReal} (h : FloatOps.absf (F := Ideal) (φ := .f32) x < ⊤) : ∃ r : ℝ, x = (r : EReal) := by
  induction x with
  | bot => exact absurd h (by simp [FloatOps.absf])
  | top => exact absurd h (by simp [FloatOps.absf])
  | coe r => exact ⟨r, rfl⟩

/-- Where a running maximum ends below the infinity, each term is below it. -/
theorem lt_of_foldl_max {ι : Type} (f : ι → EReal) :
    ∀ (l : List ι) (a : EReal), l.foldl (fun r n => FloatOps.maximumf (F := Ideal) (φ := .f32) r (f n)) a < ⊤ → a < ⊤ ∧ ∀ n ∈ l, f n < ⊤
  | [], _, h => ⟨h, fun _ hn => nomatch hn⟩
  | c :: l, a, h => by
    obtain ⟨h1, h2⟩ := lt_of_foldl_max f l _ h
    have h1' : max a (f c) < ⊤ := h1
    exact ⟨(max_lt_iff.mp h1').1, fun n hn => by
      rcases List.mem_cons.1 hn with rfl | hn
      exacts [(max_lt_iff.mp h1').2, h2 n hn]⟩

/-- Where the greatest absolute value of an array is below the infinity, its entries are reals. -/
theorem real_of_reduce {s t u : Shape} [Subsingleton t.Idx] {axes : List (Fin s.rank)} (x : FVec Ideal s .f32) (init : FVec Ideal u .f32)
    (h : s.ReducesTo axes t) (hu : 0 < u.numel) (j : t.Idx)
    (e : Host.reduce FloatOps.maximumf (Host.absf x) init h hu j < (⊤ : EReal)) (i : s.Idx) : ∃ r : ℝ, x i = (r : EReal) := by
  rw [Host.reduce_eq_foldl] at e
  refine real_of_abs ((lt_of_foldl_max (Host.absf x) _ _ e).2 i ?_)
  rw [List.mem_filter]
  exact ⟨List.mem_map.2 ⟨s.rowMajor i, List.mem_finRange _, Equiv.symm_apply_apply _ _⟩, by simp [Subsingleton.elim (h.drop i) j]⟩

end Cert.Spec

end
-- ==== Proof.Value.Pre.lean ====
module

public import proofs.«01_k».proof.Proof.PreFacts
public import proofs.«01_k».proof.Proof.Value.Read

@[expose] public section

set_option maxRecDepth 16384

noncomputable section

/-! What the precondition says: every argument but the last shift is real, and the four nearest distances are strictly apart. -/

namespace Cert.Pre_finite_and_apart.Hand

open Cert.Pre_finite_and_apart Idealize.ShloMosaic
open Cert.Spec
open scoped BigOperators

/-- The greatest absolute value is below the infinity. -/
def isReal {s : Shape} {axes : List (Fin s.rank)} (x : FVec Ideal s .f32) (h : s.ReducesTo axes S_) : IVec S_ 1 :=
  cmpf .olt (Host.reduce FloatOps.maximumf (Host.absf x) (constant S_ .f32 0xFF800000#32) h facts.h_S_) (constant S_ .f32 0x7F800000#32)

/-- The distances, negated. -/
def negd (a0 : FVec Ideal S4x3x8192 .f32) (a1 : FVec Ideal S4x3x1024 .f32) : FVec Ideal S4x8192x1024 .f32 :=
  Host.negf (maximumf (subf (addf (broadcastInDim S4x8192x1024 ![0, 1, 2] facts.bcast_S4x8192x1_S4x8192x1024_0_1_2
      (broadcastInDim S4x8192x1 ![0, 1] facts.bcast_S4x8192_S4x8192x1_0_1
        (Host.reduceAdd (mulf (transpose S4x8192x3 [0, 2, 1] a0 facts.transposes_S4x3x8192_S4x8192x3_0_2_1)
          (transpose S4x8192x3 [0, 2, 1] a0 facts.transposes_S4x3x8192_S4x8192x3_0_2_1)) (constant S_ .f32 0x00000000#32)
          facts.reducesTo_S4x8192x3_S4x8192_d2 facts.h_S_)))
    (broadcastInDim S4x8192x1024 ![0, 1, 2] facts.bcast_S4x1x1024_S4x8192x1024_0_1_2
      (broadcastInDim S4x1x1024 ![0, 2] facts.bcast_S4x1024_S4x1x1024_0_2
        (Host.reduceAdd (mulf (transpose S4x1024x3 [0, 2, 1] a1 facts.transposes_S4x3x1024_S4x1024x3_0_2_1)
          (transpose S4x1024x3 [0, 2, 1] a1 facts.transposes_S4x3x1024_S4x1024x3_0_2_1)) (constant S_ .f32 0x00000000#32)
          facts.reducesTo_S4x1024x3_S4x1024_d2 facts.h_S_))))
    (mulf (broadcastInDim S4x8192x1024 ![] facts.bcast_S_S4x8192x1024 (constant S_ .f32 0x40000000#32))
      (Host.dotGeneral dot_S4x8192x3_S4x1024x3_S4x8192x1024_2_2_1_1_0_0 none
        (transpose S4x8192x3 [0, 2, 1] a0 facts.transposes_S4x3x8192_S4x8192x3_0_2_1)
        (transpose S4x1024x3 [0, 2, 1] a1 facts.transposes_S4x3x1024_S4x1024x3_0_2_1))))
    (broadcastInDim S4x8192x1024 ![] facts.bcast_S_S4x8192x1024 (constant S_ .f32 0x00000000#32)))

/-- The four nearest distances, in order. -/
def near4 (a0 : FVec Ideal S4x3x8192 .f32) (a1 : FVec Ideal S4x3x1024 .f32) : FVec Ideal S4x8192x4 .f32 :=
  Host.negf (Host.topK S4x8192x4 2 (FloatOps.cmpfTotal .gt) (negd a0 a1) facts.sliceFits_S4x8192x1024_S4x8192x4).1

variable (a0 : FVec Ideal S4x3x8192 .f32) (a1 : FVec Ideal S4x3x1024 .f32) (a2 : FVec Ideal S4x64x8192 .f32)
  (a3 : FVec Ideal S4x64x1024 .f32) (a4 : FVec Ideal S64x128 .f32) (a5 a6 a7 : FVec Ideal S64 .f32) (a8 : FVec Ideal S64x64 .f32)
  (a9 a10 a11 : FVec Ideal S64 .f32)

/-- The first part of the precondition. -/
def allReal : IVec S_ 1 :=
  andi (andi (andi (andi (andi (andi (andi (andi (andi (andi
    (isReal a0 facts.reducesTo_S4x3x8192_S_d0_1_2) (isReal a1 facts.reducesTo_S4x3x1024_S_d0_1_2))
    (isReal a2 facts.reducesTo_S4x64x8192_S_d0_1_2)) (isReal a3 facts.reducesTo_S4x64x1024_S_d0_1_2))
    (isReal a4 facts.reducesTo_S64x128_S_d0_1)) (isReal a5 facts.reducesTo_S64_S_d0)) (isReal a6 facts.reducesTo_S64_S_d0))
    (isReal a7 facts.reducesTo_S64_S_d0)) (isReal a8 facts.reducesTo_S64x64_S_d0_1)) (isReal a9 facts.reducesTo_S64_S_d0))
    (isReal a10 facts.reducesTo_S64_S_d0)

theorem fn_eq : fn a0 a1 a2 a3 a4 a5 a6 a7 a8 a9 a10 a11
    = andi (broadcastInDim S4x8192 ![] facts.bcast_S_S4x8192 (allReal a0 a1 a2 a3 a4 a5 a6 a7 a8 a9 a10))
      (Host.reduce IntOp.andi (cmpf .olt (extractStridedSlice S4x8192x3 ![0, 0, 0] (near4 a0 a1) facts.slices_S4x8192x4_S4x8192x3_0_0_0)
        (extractStridedSlice S4x8192x3 ![0, 0, 1] (near4 a0 a1) facts.slices_S4x8192x4_S4x8192x3_0_0_1))
        (constantI S_ 1 1#1) facts.reducesTo_S4x8192x3_S4x8192_d2 facts.h_S_) := rfl

theorem isReal_real {s : Shape} {axes : List (Fin s.rank)} (x : FVec Ideal s .f32) (h : s.ReducesTo axes S_) (j : S_.Idx)
    (e : isReal x h j = 1#1) (i : s.Idx) : ∃ r : ℝ, x i = (r : EReal) := by
  haveI : Subsingleton S_.Idx := ⟨fun a b => funext fun k => k.elim0⟩
  refine real_of_reduce x (constant S_ .f32 0xFF800000#32) h facts.h_S_ j ?_ i
  have e' : BitVec.ofBool (decide (Host.reduce FloatOps.maximumf (Host.absf x) (constant S_ .f32 0xFF800000#32) h facts.h_S_ j
    < Ideal.ofBits .f32 0x7F800000#32)) = 1#1 := e
  rw [ofBits_top] at e'
  by_contra hn
  rw [decide_eq_false hn] at e'
  exact absurd e' (by decide)

theorem and_one {a b : BitVec 1} (h : IntOp.andi a b = 1#1) : a = 1#1 ∧ b = 1#1 := IntOp.andi_eq_one.1 h

/-- The arguments are reals: all but the last. -/
structure Reals : Prop where
  r0 : ∀ i, ∃ r : ℝ, a0 i = (r : EReal)
  r1 : ∀ i, ∃ r : ℝ, a1 i = (r : EReal)
  r2 : ∀ i, ∃ r : ℝ, a2 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)

variable {a0 a1 a2 a3 a4 a5 a6 a7 a8 a9 a10 a11}

theorem reals_of_fn (h : fn a0 a1 a2 a3 a4 a5 a6 a7 a8 a9 a10 a11 = fun _ => 1#1) : Reals a0 a1 a2 a3 a4 a5 a6 a7 a8 a9 a10 := by
  rw [fn_eq] at h
  obtain ⟨j, h1⟩ : ∃ j, allReal a0 a1 a2 a3 a4 a5 a6 a7 a8 a9 a10 j = 1#1 := ⟨_, (and_one (congrFun h (ix2 0 0))).1⟩
  obtain ⟨h1, e10⟩ := and_one h1
  obtain ⟨h1, e9⟩ := and_one h1
  obtain ⟨h1, e8⟩ := and_one h1
  obtain ⟨h1, e7⟩ := and_one h1
  obtain ⟨h1, e6⟩ := and_one h1
  obtain ⟨h1, e5⟩ := and_one h1
  obtain ⟨h1, e4⟩ := and_one h1
  obtain ⟨h1, e3⟩ := and_one h1
  obtain ⟨h1, e2⟩ := and_one h1
  obtain ⟨e0, e1⟩ := and_one h1
  exact ⟨isReal_real _ _ _ e0, isReal_real _ _ _ e1, isReal_real _ _ _ e2, isReal_real _ _ _ e3, isReal_real _ _ _ e4,
    isReal_real _ _ _ e5, isReal_real _ _ _ e6, isReal_real _ _ _ e7, isReal_real _ _ _ e8, isReal_real _ _ _ e9,
    isReal_real _ _ _ e10⟩

theorem negd_apply (b : Fin 4) (n : Fin 8192) (j : Fin 1024) :
    negd a0 a1 (ix3 b n j) = -max ((∑ x, a0 (ix3 b x n) * a0 (ix3 b x n)) + (∑ x, a1 (ix3 b x j) * a1 (ix3 b x j))
      - Ideal.ofBits .f32 0x40000000#32 * ∑ x, a0 (ix3 b x n) * a1 (ix3 b x j)) 0 := by
  pointwise [negd]

variable {A : Args}

/-- Of real points, the distances. -/
theorem negd_real (hq : ∀ b c n, a0 (ix3 b c n) = (A.q b c n : EReal)) (hk : ∀ b c j, a1 (ix3 b c j) = (A.k b c j : EReal))
    (b : Fin 4) (n : Fin 8192) (j : Fin 1024) : negd a0 a1 (ix3 b n j) = ((-Spec.dist A b n j : ℝ) : EReal) := by
  rw [negd_apply]
  simp only [hq, hk, ofBits_two, ← EReal.coe_mul, sum_coe, ← EReal.coe_add, ← EReal.coe_sub]
  rw [← EReal.coe_zero, max_coe, ← EReal.coe_neg]
  rfl

/-- The keys of a query, the nearest first. -/
def nearest (A : Args) (b : Fin 4) (n : Fin 8192) : Fin 1024 → Fin 1024 := order (fun k => ((-Spec.dist A b n k : ℝ) : EReal))

/-- The three nearest keys of every query. -/
def pick (A : Args) : Pick := fun b n i => nearest A b n ⟨i.val, by omega⟩

theorem near4_real (hq : ∀ b c n, a0 (ix3 b c n) = (A.q b c n : EReal)) (hk : ∀ b c j, a1 (ix3 b c j) = (A.k b c j : EReal))
    (b : Fin 4) (n : Fin 8192) (i : Fin 4) : near4 a0 a1 (ix3 b n i) = (Spec.dist A b n (nearest A b n ⟨i.val, by omega⟩) : EReal) := by
  have e : near4 a0 a1 (ix3 b n i) = -(Host.topK S4x8192x4 2 (FloatOps.cmpfTotal .gt) (negd a0 a1)
      facts.sliceFits_S4x8192x1024_S4x8192x4).1 (ix3 b n i) := rfl
  rw [e, topK_val (by omega)]
  simp only [negd_real hq hk]
  rw [EReal.coe_neg, neg_neg]
  rfl

theorem near_of_fn (h : fn a0 a1 a2 a3 a4 a5 a6 a7 a8 a9 a10 a11 = fun _ => 1#1)
    (hq : ∀ b c n, a0 (ix3 b c n) = (A.q b c n : EReal)) (hk : ∀ b c j, a1 (ix3 b c j) = (A.k b c j : EReal))
    (b : Fin 4) (n : Fin 8192) : Near (Spec.dist A b n) (pick A b n) := by
  rw [fn_eq] at h
  have h2 := (and_one (congrFun h (ix2 b n))).2
  have step : ∀ i : Fin 3, Spec.dist A b n (nearest A b n ⟨i.val, by omega⟩) < Spec.dist A b n (nearest A b n ⟨1 + i.val, by omega⟩) := by
    intro i
    have hi := Host.reduce_andi_eq_one _ _ _ _ _ h2 (ix3 b n i) (by funext a; fin_cases a <;> rfl)
    have hc : BitVec.ofBool (decide (near4 a0 a1 (ix3 b n ⟨i.val, by omega⟩) < near4 a0 a1 (ix3 b n ⟨1 + i.val, by omega⟩))) = 1#1 := by
      rw [← hi]
      pointwise
    rw [near4_real hq hk, near4_real hq hk] at hc
    by_contra hn
    rw [decide_eq_false (fun e => hn (EReal.coe_lt_coe_iff.mp e))] at hc
    exact absurd hc (by decide)
  refine near_of_sorted (nearest A b n) (order_surjective _) (fun i j hij => ?_) (step 0) (step 1) (step 2)
  have := order_sorted (fun k => ((-Spec.dist A b n k : ℝ) : EReal)) i j hij
  have := EReal.coe_le_coe_iff.mp this
  exact neg_le_neg_iff.mp this

end Cert.Pre_finite_and_apart.Hand

end
-- ==== Proof.Value.Ref.lean ====
module

public import proofs.«01_k».proof.Proof.Gen.ReferenceIdeal.Run
public import proofs.«01_k».proof.Proof.Value.Pre

@[expose] public section

set_option maxRecDepth 16384

noncomputable section

/-! What the reference computes, over the real numbers. -/

namespace Cert.ReferenceIdeal.Hand

open Cert.ReferenceIdeal Cert.ReferenceIdeal.Gen Cert.ReferenceIdeal.Value Idealize.ShloMosaic Idealize.ShloMosaic.TcCoe
open Cert.Spec
open Cert.Pre_finite_and_apart.Hand (nearest pick)
open scoped BigOperators

/-- A buffer's contents, as extended reals by index. -/
abbrev Arr (s : Shape) : Type := FVec Ideal s .f32

/-- The launch contents hold these real arguments. -/
structure Holds (A : Args) (V0 : Valuation τ sig (Elt Ideal)) : Prop where
  q : ∀ b c n, (V0 (Proc.devRef .tc main_arg0) : Arr S4x3x8192) (ix3 b c n) = (A.q b c n : EReal)
  k : ∀ b c j, (V0 (Proc.devRef .tc main_arg1) : Arr S4x3x1024) (ix3 b c j) = (A.k b c j : EReal)
  f1 : ∀ b c n, (V0 (Proc.devRef .tc main_arg2) : Arr S4x64x8192) (ix3 b c n) = (A.f1 b c n : EReal)
  f2 : ∀ b c j, (V0 (Proc.devRef .tc main_arg3) : Arr S4x64x1024) (ix3 b c j) = (A.f2 b c j : EReal)
  W1 : ∀ o c, (V0 (Proc.devRef .tc main_arg4) : Arr S64x128) (ix2 o c) = (A.W1 o c : EReal)
  b1 : ∀ o, (V0 (Proc.devRef .tc main_arg5) : Arr S64) (ix1 o) = (A.b1 o : EReal)
  g1 : ∀ o, (V0 (Proc.devRef .tc main_arg6) : Arr S64) (ix1 o) = (A.g1 o : EReal)
  be1 : ∀ o, (V0 (Proc.devRef .tc main_arg7) : Arr S64) (ix1 o) = (A.be1 o : EReal)
  W2 : ∀ o c, (V0 (Proc.devRef .tc main_arg8) : Arr S64x64) (ix2 o c) = (A.W2 o c : EReal)
  b2 : ∀ o, (V0 (Proc.devRef .tc main_arg9) : Arr S64) (ix1 o) = (A.b2 o : EReal)
  g2 : ∀ o, (V0 (Proc.devRef .tc main_arg10) : Arr S64) (ix1 o) = (A.g2 o : EReal)
  be2 : ∀ o, (V0 (Proc.devRef .tc main_arg11) : Arr S64) (ix1 o) = A.be2 o

variable {A : Args} {V0 : Valuation τ sig (Elt Ideal)}

/-- The negated distances. -/
theorem v17_real (h : Holds A V0) (b : Fin 4) (n : Fin 8192) (j : Fin 1024) :
    (res_main_v17 V0 : Arr S4x8192x1024) (ix3 b n j) = ((-Spec.dist A b n j : ℝ) : EReal) := by
  have e : (res_main_v17 V0 : Arr S4x8192x1024)
    = Pre_finite_and_apart.Hand.negd (V0 (Proc.devRef .tc main_arg0)) (V0 (Proc.devRef .tc main_arg1)) := by
    unfold res_main_v17 res_main_v0 res_main_v1
    rfl
  rw [e]
  exact Pre_finite_and_apart.Hand.negd_real h.q h.k b n j

/-- The weights before normalisation. -/
theorem v22_real (h : Holds A V0) (b : Fin 4) (n : Fin 8192) (i : Fin 3) :
    (res_main_v22 V0 : Arr S4x8192x3) (ix3 b n i) = (wt A (pick A) b n i : EReal) := by
  pointwise [res_main_v22]
  rw [topK_val (by omega)]
  simp only [v17_real h]
  rw [EReal.coe_neg, neg_neg, ofBits_epsD, max_coe, ← EReal.coe_one, div_coe _ _ (ne_of_gt (lt_max_of_lt_right epsD_pos))]
  rfl

/-- The chosen keys. -/
theorem indices_real (h : Holds A V0) (b : Fin 4) (n : Fin 8192) (i : Fin 3) :
    (res_main_indices V0 : IVec S4x8192x3 32) (ix3 b n i) = BitVec.ofNat 32 (pick A b n i).val := by
  unfold res_main_indices
  rw [topK_idx (by omega)]
  simp only [v17_real h]
  rfl

/-- A position is not negative, so it is read as it is. -/
theorem keep_nonneg (x : Nat) (hx : x < 1024) (y : BitVec 32) :
    Scalar.select (IntOp.cmpi .slt (BitVec.ofNat 32 x) 0#32) y (BitVec.ofNat 32 x) = BitVec.ofNat 32 x := by
  have e : IntOp.cmpi .slt (BitVec.ofNat 32 x) 0#32 = 0#1 := by
    show BitVec.ofBool (decide ((BitVec.ofNat 32 x).toInt < (0#32).toInt)) = 0#1
    rw [BitVec.toInt_eq_toNat_of_lt (by rw [BitVec.toNat_ofNat]; omega), decide_eq_false]
    · rfl
    · show ¬ (_ < (0 : Int))
      omega
  rw [e]
  rfl

/-- The features of the chosen keys. -/
theorem picked_real (h : Holds A V0) (b : Fin 4) (n : Fin 8192) (i : Fin 3) (c : Fin 64) :
    (Host.gather gather_S4x1024x64_S4x8192x3x2_S4x8192x3x64_3_01_n_n_01_3_1164
      (transpose S4x1024x64 [0, 2, 1] (V0 (Proc.devRef .tc main_arg3)) transposes_S4x64x1024_S4x1024x64_0_2_1)
      (concatenate S4x8192x3x2 3 [⟨S4x8192x3x1, (broadcastInDim S4x8192x3x1 ![0, 1, 2] bcast_S4x8192x3_S4x8192x3x1_0_1_2 (broadcastInDim S4x8192x3 ![0, 1, 2] bcast_S4x1x1_S4x8192x3_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x8192x3x1, (broadcastInDim S4x8192x3x1 ![0, 1, 2] bcast_S4x8192x3_S4x8192x3x1_0_1_2 (select (cmpi .slt (res_main_indices V0) (broadcastInDim S4x8192x3 ![] bcast_S_S4x8192x3 (constantI S_ 32 0#32))) (addi (res_main_indices V0) (broadcastInDim S4x8192x3 ![] bcast_S_S4x8192x3 (constantI S_ 32 1024#32))) (res_main_indices V0)))⟩] concatenates_S4x8192x3x1_S4x8192x3x1_S4x8192x3x2_d3) : Arr S4x8192x3x64) (ix4 b n i c)
      = (A.f2 b c (pick A b n i) : EReal) := by
  refine (lookup gather_S4x1024x64_S4x8192x3x2_S4x8192x3x64_3_01_n_n_01_3_1164 _ rfl _ _ b n i c (pick A b n i) ?_ ?_).trans ?_
  · pointwise
    exact keep_nonneg b.val (by omega) _
  · pointwise
    rw [indices_real h]
    exact keep_nonneg _ (pick A b n i).isLt _
  · pointwise
    exact h.f2 b c _

/-- The first layer. -/
theorem v55_real (h : Holds A V0) (b : Fin 4) (o : Fin 64) (n : Fin 8192) :
    (res_main_v55 V0 : Arr S4x64x8192) (ix3 b o n) = (h1 A (pick A) b o n : EReal) := by
  pointwise [res_main_v55, res_main_v29]
  simp only [picked_real h, v22_real h, h.f1, h.W1, h.b1, sum_coe, div_coe _ _ (ne_of_gt (wt_sum_pos A (pick A) b n)),
    ← EReal.coe_mul, ← EReal.coe_add]
  unfold h1 Spec.interp
  simp only [mul_comm (A.W1 o _)]

/-- The normalisation the reference takes of a layer, before its scale. -/
def normed (v : Arr S4x64x8192) : Arr S4x64x8192 :=
  Host.divf (subf v (broadcastInDim S4x64x8192 ![0, 1, 2] bcast_S1x64x1_S4x64x8192_0_1_2 (Host.divf (broadcastInDim S1x64x1 ![1] bcast_S64_S1x64x1_1 (Host.reduceAdd v (constant S_ .f32 0x00000000#32) reducesTo_S4x64x8192_S64_d0_2 h_S_)) (broadcastInDim S1x64x1 ![] bcast_S_S1x64x1 (constant S_ .f32 0x47000000#32))))) (broadcastInDim S4x64x8192 ![0, 1, 2] bcast_S1x64x1_S4x64x8192_0_1_2 (Host.sqrt (addf (select (broadcastInDim S1x64x1 ![] bcast_S_S1x64x1 (cmpf .ogt (subf (constant (F := Ideal) S_ .f32 0x47000000#32) (sitofp .f32 (constantI S_ 32 0#32))) (constant S_ .f32 0x00000000#32))) (Host.divf (broadcastInDim S1x64x1 ![1] bcast_S64_S1x64x1_1 (Host.reduceAdd (mulf (subf v (broadcastInDim S4x64x8192 ![0, 1, 2] bcast_S1x64x1_S4x64x8192_0_1_2 (Host.divf (broadcastInDim S1x64x1 ![1] bcast_S64_S1x64x1_1 (Host.reduceAdd v (constant S_ .f32 0x00000000#32) reducesTo_S4x64x8192_S64_d0_2 h_S_)) (broadcastInDim S1x64x1 ![] bcast_S_S1x64x1 (constant S_ .f32 0x47000000#32))))) (subf v (broadcastInDim S4x64x8192 ![0, 1, 2] bcast_S1x64x1_S4x64x8192_0_1_2 (Host.divf (broadcastInDim S1x64x1 ![1] bcast_S64_S1x64x1_1 (Host.reduceAdd v (constant S_ .f32 0x00000000#32) reducesTo_S4x64x8192_S64_d0_2 h_S_)) (broadcastInDim S1x64x1 ![] bcast_S_S1x64x1 (constant S_ .f32 0x47000000#32)))))) (constant S_ .f32 0x00000000#32) reducesTo_S4x64x8192_S64_d0_2 h_S_)) (broadcastInDim S1x64x1 ![] bcast_S_S1x64x1 (subf (constant (F := Ideal) S_ .f32 0x47000000#32) (sitofp .f32 (constantI S_ 32 0#32))))) (broadcastInDim S1x64x1 ![] bcast_S_S1x64x1 (id (constant S_ .f32 0x7FC00000#32)))) (broadcastInDim S1x64x1 ![] bcast_S_S1x64x1 (constant S_ .f32 0x3727C5AC#32)))))

/-- The variance's divisor. -/
theorem count_real : Ideal.ofBits .f32 0x47000000#32 - FloatOps.sitofp (F := Ideal) .f32 0#32 = ((32768 : ℝ) : EReal) := by
  show Ideal.ofBits .f32 0x47000000#32 - (((0#32).toInt : ℝ) : EReal) = _
  rw [ofBits_count, ← EReal.coe_sub]
  norm_num

/-- It is the difference from the mean over the root of the variance. -/
theorem normed_real {v : Arr S4x64x8192} {H : Fin 4 → Fin 64 → Fin 8192 → ℝ} (hv : ∀ b o n, v (ix3 b o n) = (H b o n : EReal))
    (b : Fin 4) (o : Fin 64) (n : Fin 8192) :
    normed v (ix3 b o n) = (((H b o n - mean H o) / Real.sqrt (var H o + epsV) : ℝ) : EReal) := by
  have hm : Ideal.div (∑ b, ∑ n, v (ix3 b o n)) (Ideal.ofBits .f32 0x47000000#32) = (mean H o : EReal) := by
    simp only [hv, sum_coe]
    rw [ofBits_count, div_coe _ _ (by norm_num)]
    rfl
  pointwise [normed]
  simp only [sum_outer]
  pointwise
  simp only [sum_outer, hm, count_real]
  rw [if_pos (by exact_mod_cast (by norm_num : (0 : ℝ) < 32768))]
  simp only [hv, ← EReal.coe_sub, ← EReal.coe_mul, sum_coe]
  rw [div_coe _ _ (by norm_num), ofBits_epsV, ← EReal.coe_add]
  have hvar : (∑ b, ∑ n, (H b o n - mean H o) * (H b o n - mean H o)) / 32768 = var H o := rfl
  rw [hvar, sqrt_coe _ (add_nonneg (var_nonneg H o) epsV_pos.le), div_coe _ _ (ne_of_gt (sqrt_pos H o))]

theorem v79_eq : (res_main_v79 V0 : Arr S4x64x8192) =
    addf (transpose S4x64x8192 [0, 2, 1] (Host.dotGeneral (φ₂ := .f32) dot_S4x64x8192_S64x64_S4x8192x64_1_1_02_0_n_n none
      (maximumf (addf (mulf (normed (res_main_v55 V0))
        (broadcastInDim S4x64x8192 ![0, 1, 2] bcast_S1x64x1_S4x64x8192_0_1_2 (broadcastInDim S1x64x1 ![1] bcast_S64_S1x64x1_1 (V0 (Proc.devRef .tc main_arg6)))))
        (broadcastInDim S4x64x8192 ![0, 1, 2] bcast_S1x64x1_S4x64x8192_0_1_2 (broadcastInDim S1x64x1 ![1] bcast_S64_S1x64x1_1 (V0 (Proc.devRef .tc main_arg7)))))
        (broadcastInDim S4x64x8192 ![] bcast_S_S4x64x8192 (constant S_ .f32 0x00000000#32))) (V0 (Proc.devRef .tc main_arg8) : Arr S64x64))
      transposes_S4x8192x64_S4x64x8192_0_2_1)
    (broadcastInDim S4x64x8192 ![0, 1, 2] bcast_S1x64x1_S4x64x8192_0_1_2 (broadcastInDim S1x64x1 ![1] bcast_S64_S1x64x1_1 (V0 (Proc.devRef .tc main_arg9)))) := by
  unfold res_main_v79 res_main_call0_v5 res_main_call0_v8 normed
  rfl

/-- The second layer. -/
theorem v79_real (h : Holds A V0) (b : Fin 4) (o : Fin 64) (n : Fin 8192) :
    (res_main_v79 V0 : Arr S4x64x8192) (ix3 b o n) = (h2 A (pick A) b o n : EReal) := by
  rw [v79_eq]
  pointwise
  simp only [normed_real (v55_real h), h.g1, h.be1, h.W2, h.b2, ← EReal.coe_mul, ← EReal.coe_add]
  have hy : ∀ c : Fin 64, max ((((h1 A (pick A) b c n - mean (h1 A (pick A)) c) / Real.sqrt (var (h1 A (pick A)) c + epsV) * A.g1 c
      + A.be1 c) : ℝ) : EReal) 0 = (y1 A (pick A) b c n : EReal) := by
    intro c
    rw [← EReal.coe_zero, max_coe]
    rfl
  simp only [hy, ← EReal.coe_mul, sum_coe, ← EReal.coe_add]
  unfold h2
  simp only [mul_comm (A.W2 o _)]

/-- The result, as the run composes it. -/
def result (V0 : Valuation τ sig (Elt Ideal)) : Arr S4x64x8192 :=
  maximumf (addf (mulf (normed (res_main_v79 V0))
    (broadcastInDim S4x64x8192 ![0, 1, 2] bcast_S1x64x1_S4x64x8192_0_1_2 (broadcastInDim S1x64x1 ![1] bcast_S64_S1x64x1_1 (V0 (Proc.devRef .tc main_arg10)))))
    (broadcastInDim S4x64x8192 ![0, 1, 2] bcast_S1x64x1_S4x64x8192_0_1_2 (broadcastInDim S1x64x1 ![1] bcast_S64_S1x64x1_1 (V0 (Proc.devRef .tc main_arg11)))))
    (broadcastInDim S4x64x8192 ![] bcast_S_S4x64x8192 (constant S_ .f32 0x00000000#32))

theorem result_real (h : Holds A V0) (b : Fin 4) (o : Fin 64) (n : Fin 8192) : result V0 (ix3 b o n) = out A (pick A) b o n := by
  pointwise [result]
  simp only [normed_real (v79_real h), h.g2, h.be2, ← EReal.coe_mul]
  rfl

open Idealize.SL.Sem in
/-- The reference's run: the result is the one above, and the arguments stay. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r hr c => ⟨(hr c).1.trans ?_, (hr c).2⟩) (run m ρ)
  unfold result normed res_main_call2_v5 res_main_call2_v8
  rfl

end Cert.ReferenceIdeal.Hand

end
-- ==== Proof.Value.Same.lean ====
module

public import proofs.«01_k».proof.Defs
public import proofs.«01_k».proof.Proof.Value.Arr1
public import proofs.«01_k».proof.Proof.Value.Ref

@[expose] public section

noncomputable section

/-! The kernel and the reference leave the same result. -/

namespace Cert.Proof

open Idealize.ShloMosaic Idealize.SL.Sem
open Cert.Spec

/-- The arguments of the kernel as real numbers. -/
def argsOf (X : Valuation Cert.KernelIdeal.τ Cert.KernelIdeal.sig (Elt Ideal)) : Args where
  q b c n := ((X (Proc.devRef .tc Cert.KernelIdeal.main_arg0) : Vec Ideal Cert.KernelIdeal.S4x3x8192 .f32) (ix3 b c n) : EReal).toReal
  k b c j := ((X (Proc.devRef .tc Cert.KernelIdeal.main_arg1) : Vec Ideal Cert.KernelIdeal.S4x3x1024 .f32) (ix3 b c j) : EReal).toReal
  f1 b c n := ((X (Proc.devRef .tc Cert.KernelIdeal.main_arg2) : Vec Ideal Cert.KernelIdeal.S4x64x8192 .f32) (ix3 b c n) : EReal).toReal
  f2 b c j := ((X (Proc.devRef .tc Cert.KernelIdeal.main_arg3) : Vec Ideal Cert.KernelIdeal.S4x64x1024 .f32) (ix3 b c j) : EReal).toReal
  W1 o c := ((X (Proc.devRef .tc Cert.KernelIdeal.main_arg4) : Vec Ideal Cert.KernelIdeal.S64x128 .f32) (ix2 o c) : EReal).toReal
  b1 o := ((X (Proc.devRef .tc Cert.KernelIdeal.main_arg5) : Vec Ideal Cert.KernelIdeal.S64 .f32) (ix1 o) : EReal).toReal
  g1 o := ((X (Proc.devRef .tc Cert.KernelIdeal.main_arg6) : Vec Ideal Cert.KernelIdeal.S64 .f32) (ix1 o) : EReal).toReal
  be1 o := ((X (Proc.devRef .tc Cert.KernelIdeal.main_arg7) : Vec Ideal Cert.KernelIdeal.S64 .f32) (ix1 o) : EReal).toReal
  W2 o c := ((X (Proc.devRef .tc Cert.KernelIdeal.main_arg8) : Vec Ideal Cert.KernelIdeal.S64x64 .f32) (ix2 o c) : EReal).toReal
  b2 o := ((X (Proc.devRef .tc Cert.KernelIdeal.main_arg9) : Vec Ideal Cert.KernelIdeal.S64 .f32) (ix1 o) : EReal).toReal
  g2 o := ((X (Proc.devRef .tc Cert.KernelIdeal.main_arg10) : Vec Ideal Cert.KernelIdeal.S64 .f32) (ix1 o) : EReal).toReal
  be2 o := (X (Proc.devRef .tc Cert.KernelIdeal.main_arg11) : Vec Ideal Cert.KernelIdeal.S64 .f32) (ix1 o)

/-- An extended real that is real is its real part. -/
theorem eq_toReal {x : EReal} (h : ∃ r : ℝ, x = (r : EReal)) : x = (x.toReal : EReal) := by
  obtain ⟨r, rfl⟩ := h
  rw [EReal.toReal_coe]

/-- The kernel's program, the reference's and the precondition's side conditions. -/
local instance : Cert.KernelIdeal.Facts := Cert.KernelIdeal.Gen.facts
local instance : Cert.ReferenceIdeal.Facts := Cert.ReferenceIdeal.Gen.facts

theorem args_real {m : (ℓ : Loc Cert.KernelIdeal.nD Cert.KernelIdeal.τ Cert.KernelIdeal.sig) → Buf (Elt Ideal) ℓ}
    (h : Pre_KernelIdeal_finite_and_apart (hPre_finite_and_apart := Cert.Pre_finite_and_apart.Hand.facts) m) (c : Dev Cert.KernelIdeal.nD) :
    Cert.KernelIdeal.Hand.Args0 (argsOf (Cert.KernelIdeal.Gen.V0 m c)) (Cert.KernelIdeal.Gen.V0 m c) := by
  have hr := Cert.Pre_finite_and_apart.Hand.reals_of_fn (h c)
  exact ⟨fun _ _ _ => eq_toReal (hr.r0 _), fun _ _ _ => eq_toReal (hr.r1 _), fun _ _ _ => eq_toReal (hr.r2 _),
    fun _ _ _ => eq_toReal (hr.r3 _), fun _ _ => eq_toReal (hr.r4 _), fun _ => eq_toReal (hr.r5 _), fun _ => eq_toReal (hr.r6 _),
    fun _ => eq_toReal (hr.r7 _), fun _ _ => eq_toReal (hr.r8 _), fun _ => eq_toReal (hr.r9 _), fun _ => eq_toReal (hr.r10 _),
    fun _ => rfl⟩

theorem args_near {m : (ℓ : Loc Cert.KernelIdeal.nD Cert.KernelIdeal.τ Cert.KernelIdeal.sig) → Buf (Elt Ideal) ℓ}
    (h : Pre_KernelIdeal_finite_and_apart (hPre_finite_and_apart := Cert.Pre_finite_and_apart.Hand.facts) m) (c : Dev Cert.KernelIdeal.nD)
    (b : Fin 4) (n : Fin 8192) : Near (Spec.dist (argsOf (Cert.KernelIdeal.Gen.V0 m c)) b n)
      (Cert.Pre_finite_and_apart.Hand.pick (argsOf (Cert.KernelIdeal.Gen.V0 m c)) b n) :=
  Cert.Pre_finite_and_apart.Hand.near_of_fn (h c) (args_real h c).q (args_real h c).k b n

/-- From equal arguments, the two runs leave the same result. -/
theorem algebraic_kernel : algebraic_KernelIdeal_ReferenceIdeal_pre_finite_and_apart (hKernelIdeal := Cert.KernelIdeal.Gen.facts)
    (hReferenceIdeal := Cert.ReferenceIdeal.Gen.facts) (hPre_finite_and_apart := Cert.Pre_finite_and_apart.Hand.facts) := by
  intro m g m' g' hm hargs
  refine ⟨fun c => (Cert.KernelIdeal.Hand.dat1 (Cert.KernelIdeal.Hand.W3 m) c).arrAt 8 Cert.KernelIdeal.cfg1.N, ?_, ?_⟩
  · exact (θ_run _ _ _).mono (fun r hr c => ⟨Cert.KernelIdeal.Hand.Final.result m hr.1 c, Cert.KernelIdeal.Hand.Final.args m hr.1 c⟩)
      (Cert.KernelIdeal.Hand.run_main m g)
  · refine (θ_run _ _ _).mono (fun r hr c => ⟨(hr c).1.trans ?_, (hr c).2⟩) (Cert.ReferenceIdeal.Hand.run_result m' g')
    obtain ⟨e0, e1, e2, e3, e4, e5, e6, e7, e8, e9, e10, e11⟩ := hargs c
    have hk := args_real hm c
    have hH : Cert.ReferenceIdeal.Hand.Holds (argsOf (Cert.KernelIdeal.Gen.V0 m c)) (StableHlo.launchContents m' c) :=
      ⟨fun b i n => (congrFun e0 (ix3 b i n)).trans (hk.q b i n), fun b i n => (congrFun e1 (ix3 b i n)).trans (hk.k b i n),
        fun b i n => (congrFun e2 (ix3 b i n)).trans (hk.f1 b i n), fun b i n => (congrFun e3 (ix3 b i n)).trans (hk.f2 b i n),
        fun o i => (congrFun e4 (ix2 o i)).trans (hk.W1 o i), fun o => (congrFun e5 (ix1 o)).trans (hk.b1 o),
        fun o => (congrFun e6 (ix1 o)).trans (hk.g1 o), fun o => (congrFun e7 (ix1 o)).trans (hk.be1 o),
        fun o i => (congrFun e8 (ix2 o i)).trans (hk.W2 o i), fun o => (congrFun e9 (ix1 o)).trans (hk.b2 o),
        fun o => (congrFun e10 (ix1 o)).trans (hk.g2 o), fun o => (congrFun e11 (ix1 o)).trans (hk.be2 o)⟩
    have hpt : ∀ b o n, Cert.ReferenceIdeal.Hand.result (StableHlo.launchContents m' c) (ix3 b o n)
        = ((Cert.KernelIdeal.Hand.dat1 (Cert.KernelIdeal.Hand.W3 m) c).arrAt 8 Cert.KernelIdeal.cfg1.N :
          Vec Ideal Cert.KernelIdeal.S4x64x8192 .f32) (ix3 b o n) := fun b o n =>
      (Cert.ReferenceIdeal.Hand.result_real hH b o n).trans (Cert.KernelIdeal.Hand.result_real (args_near hm c) hk b o n).symm
    have hall : Cert.ReferenceIdeal.Hand.result (StableHlo.launchContents m' c)
        = ((Cert.KernelIdeal.Hand.dat1 (Cert.KernelIdeal.Hand.W3 m) c).arrAt 8 Cert.KernelIdeal.cfg1.N :
          Vec Ideal Cert.KernelIdeal.S4x64x8192 .f32) := by
      funext i
      rw [eq_ix3 i]
      exact hpt _ _ _
    exact hall

end Cert.Proof

end
-- ==== Proof.lean ====
module

public import proofs.«01_k».proof.Defs
public import proofs.«01_k».proof.Proof.Frames
public import proofs.«01_k».proof.Proof.Gen.ReferenceIdeal.Run
public import proofs.«01_k».proof.Proof.Value.Same

@[expose] public section

noncomputable section

namespace Cert.Proof

open Idealize.ShloMosaic Idealize.SL.Sem

/-- The claims. -/
theorem claim : Cert.Claim :=
  ⟨Cert.Kernel.Gen.facts, Cert.KernelIdeal.Gen.facts, Cert.ReferenceIdeal.Gen.facts, Cert.Pre_finite_and_apart.Hand.facts,
    frame_Kernel, frame_KernelIdeal, fun m g _ => frame_KernelIdeal m g trivial, frame_ReferenceIdeal,
    fun m g _ => frame_ReferenceIdeal m g trivial, preserves_kernel, algebraic_kernel⟩

end Cert.Proof

end
